-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_nbr_in_scene : Cert.Pre_nbr_in_scene.Facts] (m : (ℓ : Loc Cert.Gather.nD Cert.Gather.τ Cert.Gather.sig) → Buf (Elt Bits) ℓ) : Prop :=
  ∀ c : Dev Cert.Gather.nD,
    (Cert.Pre_nbr_in_scene.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherReference (m : (ℓ : Loc Cert.GatherReference.nD Cert.GatherReference.τ Cert.GatherReference.sig) → Buf (Elt Bits) ℓ) : Prop :=
  True

def Pre_GatherReference_nbr_in_scene [hPre_nbr_in_scene : Cert.Pre_nbr_in_scene.Facts] (m : (ℓ : Loc Cert.GatherReference.nD Cert.GatherReference.τ Cert.GatherReference.sig) → Buf (Elt Bits) ℓ) : Prop :=
  ∀ c : Dev Cert.GatherReference.nD,
    (Cert.Pre_nbr_in_scene.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gather [hGather : Cert.Gather.Facts] [hPre_nbr_in_scene : Cert.Pre_nbr_in_scene.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReference_pre_nbr_in_scene [hGatherReference : Cert.GatherReference.Facts] [hPre_nbr_in_scene : Cert.Pre_nbr_in_scene.Facts] : Prop :=
  ∀ (m : (ℓ : Loc Cert.GatherReference.nD Cert.GatherReference.τ Cert.GatherReference.sig) → Buf (Elt Bits) ℓ) (g : Dev Cert.GatherReference.nD → PrngReg), Pre_GatherReference_nbr_in_scene m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def bitexact_Gather_GatherReference [hGather : Cert.Gather.Facts] [hGatherReference : Cert.GatherReference.Facts] [hPre_nbr_in_scene : Cert.Pre_nbr_in_scene.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v4)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v4) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v15) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def Claim : Prop :=
  ∃ (hKernel : Cert.Kernel.Facts) (hKernelIdeal : Cert.KernelIdeal.Facts) (hReferenceIdeal : Cert.ReferenceIdeal.Facts) (hGather : Cert.Gather.Facts) (hGatherReference : Cert.GatherReference.Facts) (hPre_nbr_in_scene : Cert.Pre_nbr_in_scene.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_nbr_in_scene := hPre_nbr_in_scene)
    ∧ quiescent_GatherReference (hGatherReference := hGatherReference)
    ∧ quiescent_GatherReference_pre_nbr_in_scene (hGatherReference := hGatherReference) (hPre_nbr_in_scene := hPre_nbr_in_scene)
    ∧ preserves_Kernel_KernelIdeal
    ∧ algebraic_KernelIdeal_ReferenceIdeal (hKernelIdeal := hKernelIdeal) (hReferenceIdeal := hReferenceIdeal)
    ∧ bitexact_Gather_GatherReference (hGather := hGather) (hGatherReference := hGatherReference) (hPre_nbr_in_scene := hPre_nbr_in_scene)
-- ==== Pre_nbr_in_scene.lean ====
abbrev S12x81920x64 : Shape := ⟨3, ![12, 81920, 64]⟩
abbrev S12x81920x27 : Shape := ⟨3, ![12, 81920, 27]⟩
abbrev S_ : Shape := ⟨0, ![]⟩

class Facts : Prop where
  bcast_S_S12x81920x27 : S_.BroadcastsInDim S12x81920x27 (![] : Fin 0 → Fin S12x81920x27.rank)

variable [Facts]

def fn {F : FTy → Type} [FloatOps F] (main_arg0 : FVec F S12x81920x64 .fp8e4m3) (main_arg1 : IVec S12x81920x27 32) : IVec S12x81920x27 1 :=
  let main_c : IVec S_ 32 := constantI S_ 32 81920#32
  let main_v0 : IVec S12x81920x27 32 := broadcastInDim S12x81920x27 ![] bcast_S_S12x81920x27 main_c
  let main_v1 : IVec S12x81920x27 1 := cmpi .slt main_arg1 main_v0
  main_v1
-- ==== Kernel.lean ====
abbrev S2x432x81920 : Shape := ⟨3, ![2, 432, 81920]⟩
abbrev S1 : Shape := ⟨1, ![1]⟩
abbrev S27x64x96 : Shape := ⟨3, ![27, 64, 96]⟩
abbrev S27x96 : Shape := ⟨2, ![27, 96]⟩
abbrev S96 : Shape := ⟨1, ![96]⟩
abbrev S1728x96 : Shape := ⟨2, ![1728, 96]⟩
abbrev S96x1728 : Shape := ⟨2, ![96, 1728]⟩
abbrev S96x1 : Shape := ⟨2, ![96, 1]⟩
abbrev S12x96x81920 : Shape := ⟨3, ![12, 96, 81920]⟩
abbrev S1x432x4096 : Shape := ⟨3, ![1, 432, 4096]⟩
abbrev S1x96x4096 : Shape := ⟨3, ![1, 96, 4096]⟩
abbrev S432x4096 : Shape := ⟨2, ![432, 4096]⟩
abbrev S1728x4096 : Shape := ⟨2, ![1728, 4096]⟩
abbrev S96x4096 : Shape := ⟨2, ![96, 4096]⟩

abbrev nBuf : Space → Nat
  | .hbm => 22
  | .vmem => 48
  | .smem => 6
  | _ => 0

abbrev bufTy : (tb : Table) → Fin (tcTables nBuf tb) → BufTy
  | .hbm, ⟨0, _⟩ => ⟨S2x432x81920, .i32⟩
  | .hbm, ⟨1, _⟩ => ⟨S2x432x81920, .i32⟩
  | .hbm, ⟨2, _⟩ => ⟨S2x432x81920, .i32⟩
  | .hbm, ⟨3, _⟩ => ⟨S2x432x81920, .i32⟩
  | .hbm, ⟨4, _⟩ => ⟨S2x432x81920, .i32⟩
  | .hbm, ⟨5, _⟩ => ⟨S2x432x81920, .i32⟩
  | .hbm, ⟨6, _⟩ => ⟨S1, .f32⟩
  | .hbm, ⟨7, _⟩ => ⟨S27x64x96, .fp8e4m3⟩
  | .hbm, ⟨8, _⟩ => ⟨S27x96, .f32⟩
  | .hbm, ⟨9, _⟩ => ⟨S96, .f32⟩
  | .hbm, ⟨10, _⟩ => ⟨S1728x96, .fp8e4m3⟩
  | .hbm, ⟨11, _⟩ => ⟨S96x1728, .fp8e4m3⟩
  | .hbm, ⟨12, _⟩ => ⟨S27x64x96, .f32⟩
  | .hbm, ⟨13, _⟩ => ⟨S1728x96, .f32⟩
  | .hbm, ⟨14, _⟩ => ⟨S96x1728, .f32⟩
  | .hbm, ⟨15, _⟩ => ⟨S96x1, .f32⟩
  | .hbm, ⟨16, _⟩ => ⟨S12x96x81920, .f32⟩
  | .hbm, ⟨17, _⟩ => ⟨S12x96x81920, .f32⟩
  | .hbm, ⟨18, _⟩ => ⟨S12x96x81920, .f32⟩
  | .hbm, ⟨19, _⟩ => ⟨S12x96x81920, .f32⟩
  | .hbm, ⟨20, _⟩ => ⟨S12x96x81920, .f32⟩
  | .hbm, ⟨21, _⟩ => ⟨S12x96x81920, .f32⟩
  | .local _ .vmem, ⟨0, _⟩ => ⟨S1x432x4096, .i32⟩
  | .local _ .vmem, ⟨1, _⟩ => ⟨S1x432x4096, .i32⟩
  | .local _ .vmem, ⟨2, _⟩ => ⟨S96x1728, .fp8e4m3⟩
  | .local _ .vmem, ⟨3, _⟩ => ⟨S96x1728, .f32⟩
  | .local _ .vmem, ⟨4, _⟩ => ⟨S96x1, .f32⟩
  | .local _ .vmem, ⟨5, _⟩ => ⟨S1x96x4096, .f32⟩
  | .local _ .vmem, ⟨6, _⟩ => ⟨S1x96x4096, .f32⟩
  | .local _ .vmem, ⟨7, _⟩ => ⟨S96x1728, .bf16⟩
  | .local _ .vmem, ⟨8, _⟩ => ⟨S1x432x4096, .i32⟩
  | .local _ .vmem, ⟨9, _⟩ => ⟨S1x432x4096, .i32⟩
  | .local _ .vmem, ⟨10, _⟩ => ⟨S96x1728, .fp8e4m3⟩
  | .local _ .vmem, ⟨11, _⟩ => ⟨S96x1728, .f32⟩
  | .local _ .vmem, ⟨12, _⟩ => ⟨S96x1, .f32⟩
  | .local _ .vmem, ⟨13, _⟩ => ⟨S1x96x4096, .f32⟩
  | .local _ .vmem, ⟨14, _⟩ => ⟨S1x96x4096, .f32⟩
  | .local _ .vmem, ⟨15, _⟩ => ⟨S96x1728, .bf16⟩
  | .local _ .vmem, ⟨16, _⟩ => ⟨S1x432x4096, .i32⟩
  | .local _ .vmem, ⟨17, _⟩ => ⟨S1x432x4096, .i32⟩
  | .local _ .vmem, ⟨18, _⟩ => ⟨S96x1728, .fp8e4m3⟩
  | .local _ .vmem, ⟨19, _⟩ => ⟨S96x1728, .f32⟩
  | .local _ .vmem, ⟨20, _⟩ => ⟨S96x1, .f32⟩
  | .local _ .vmem, ⟨21, _⟩ => ⟨S1x96x4096, .f32⟩
  | .local _ .vmem, ⟨22, _⟩ => ⟨S1x96x4096, .f32⟩
  | .local _ .vmem, ⟨23, _⟩ => ⟨S96x1728, .bf16⟩
  | .local _ .vmem, ⟨24, _⟩ => ⟨S1x432x4096, .i32⟩
  | .local _ .vmem, ⟨25, _⟩ => ⟨S1x432x4096, .i32⟩
  | .local _ .vmem, ⟨26, _⟩ => ⟨S96x1728, .fp8e4m3⟩
  | .local _ .vmem, ⟨27, _⟩ => ⟨S96x1728, .f32⟩
  | .local _ .vmem, ⟨28, _⟩ => ⟨S96x1, .f32⟩
  | .local _ .vmem, ⟨29, _⟩ => ⟨S1x96x4096, .f32⟩
  | .local _ .vmem, ⟨30, _⟩ => ⟨S1x96x4096, .f32⟩
  | .local _ .vmem, ⟨31, _⟩ => ⟨S96x1728, .bf16⟩
  | .local _ .vmem, ⟨32, _⟩ => ⟨S1x432x4096, .i32⟩
  | .local _ .vmem, ⟨33, _⟩ => ⟨S1x432x4096, .i32⟩
  | .local _ .vmem, ⟨34, _⟩ => ⟨S96x1728, .fp8e4m3⟩
  | .local _ .vmem, ⟨35, _⟩ => ⟨S96x1728, .f32⟩
  | .local _ .vmem, ⟨36, _⟩ => ⟨S96x1, .f32⟩
  | .local _ .vmem, ⟨37, _⟩ => ⟨S1x96x4096, .f32⟩
  | .local _ .vmem, ⟨38, _⟩ => ⟨S1x96x4096, .f32⟩
  | .local _ .vmem, ⟨39, _⟩ => ⟨S96x1728, .bf16⟩
  | .local _ .vmem, ⟨40, _⟩ => ⟨S1x432x4096, .i32⟩
  | .local _ .vmem, ⟨41, _⟩ => ⟨S1x432x4096, .i32⟩
  | .local _ .vmem, ⟨42, _⟩ => ⟨S96x1728, .fp8e4m3⟩
  | .local _ .vmem, ⟨43, _⟩ => ⟨S96x1728, .f32⟩
  | .local _ .vmem, ⟨44, _⟩ => ⟨S96x1, .f32⟩
  | .local _ .vmem, ⟨45, _⟩ => ⟨S1x96x4096, .f32⟩
  | .local _ .vmem, ⟨46, _⟩ => ⟨S1x96x4096, .f32⟩
  | .local _ .vmem, ⟨47, _⟩ => ⟨S96x1728, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S2x432x81920, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg5_1 : Ref sig .tc := ⟨.vmem, 46, rfl⟩
abbrev cc5_scratch0 : Ref sig .tc := ⟨.vmem, 47, rfl⟩
abbrev cc0_stg3_0 : Ref sig .tc := ⟨.smem, 0, rfl⟩
abbrev cc1_stg3_0 : Ref sig .tc := ⟨.smem, 1, rfl⟩
abbrev cc2_stg3_0 : Ref sig .tc := ⟨.smem, 2, rfl⟩
abbrev cc3_stg3_0 : Ref sig .tc := ⟨.smem, 3, rfl⟩
abbrev cc4_stg3_0 : Ref sig .tc := ⟨.smem, 4, rfl⟩
abbrev cc5_stg3_0 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨2, ![2, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

abbrev stage0_0 : Fin 2 → Memref sig .tc .vmem S1x432x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x1728 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x1728 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x96x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 20], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat, arg1.toNat]

abbrev stage1_0 : Fin 2 → Memref sig .tc .vmem S1x432x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S96x1728 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S96x1728 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x96x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 20], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

abbrev stage2_0 : Fin 2 → Memref sig .tc .vmem S1x432x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S96x1728 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S96x1728 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S96x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x96x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 20], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![v0.toNat, c0_i32.toNat, arg1.toNat]

abbrev stage3_0 : Fin 2 → Memref sig .tc .vmem S1x432x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S96x1728 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S96x1728 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .smem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S96x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x96x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![2, 20], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat, arg1.toNat]

abbrev stage4_0 : Fin 2 → Memref sig .tc .vmem S1x432x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S96x1728 .fp8e4m3 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S96x1728 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .smem S1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S96x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x96x4096 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 20], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  let c0_i32_0 : BitVec 32 := 0#32
  ![v0.toNat, c0_i32.toNat, arg1.toNat]

abbrev stage5_0 : Fin 2 → Memref sig .tc .vmem S1x432x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S96x1728 .fp8e4m3 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S96x1728 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .smem S1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S96x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x96x4096 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]
-- ==== ReferenceIdeal.lean ====
abbrev S2x432x81920 : Shape := ⟨3, ![2, 432, 81920]⟩
abbrev S1 : Shape := ⟨1, ![1]⟩
abbrev S27x64x96 : Shape := ⟨3, ![27, 64, 96]⟩
abbrev S27x96 : Shape := ⟨2, ![27, 96]⟩
abbrev S96 : Shape := ⟨1, ![96]⟩
abbrev S12x432x81920 : Shape := ⟨3, ![12, 432, 81920]⟩
abbrev S1728x96 : Shape := ⟨2, ![1728, 96]⟩
abbrev S27x1x96 : Shape := ⟨3, ![27, 1, 96]⟩
abbrev S96x1 : Shape := ⟨2, ![96, 1]⟩
abbrev S12x96x81920 : Shape := ⟨3, ![12, 96, 81920]⟩
abbrev S12x1728x81920 : Shape := ⟨3, ![12, 1728, 81920]⟩
abbrev S1x1728x96 : Shape := ⟨3, ![1, 1728, 96]⟩
abbrev S12x1728x96 : Shape := ⟨3, ![12, 1728, 96]⟩
abbrev S1x96x1 : Shape := ⟨3, ![1, 96, 1]⟩

abbrev nBuf : Space → Nat
  | .hbm => 17
  | .vmem => 5
  | .smem => 1
  | _ => 0

abbrev bufTy : (tb : Table) → Fin (tcTables nBuf tb) → BufTy
  | .hbm, ⟨0, _⟩ => ⟨S2x432x81920, .i32⟩
  | .hbm, ⟨1, _⟩ => ⟨S2x432x81920, .i32⟩
  | .hbm, ⟨2, _⟩ => ⟨S2x432x81920, .i32⟩
  | .hbm, ⟨3, _⟩ => ⟨S2x432x81920, .i32⟩
  | .hbm, ⟨4, _⟩ => ⟨S2x432x81920, .i32⟩
  | .hbm, ⟨5, _⟩ => ⟨S2x432x81920, .i32⟩
  | .hbm, ⟨6, _⟩ => ⟨S1, .f32⟩
  | .hbm, ⟨7, _⟩ => ⟨S27x64x96, .fp8e4m3⟩
  | .hbm, ⟨8, _⟩ => ⟨S27x96, .f32⟩
  | .hbm, ⟨9, _⟩ => ⟨S96, .f32⟩
  | .hbm, ⟨10, _⟩ => ⟨S12x432x81920, .i32⟩
  | .hbm, ⟨11, _⟩ => ⟨S1728x96, .fp8e4m3⟩
  | .hbm, ⟨12, _⟩ => ⟨S27x1x96, .f32⟩
  | .hbm, ⟨13, _⟩ => ⟨S27x64x96, .f32⟩
  | .hbm, ⟨14, _⟩ => ⟨S1728x96, .f32⟩
  | .hbm, ⟨15, _⟩ => ⟨S96x1, .f32⟩
  | .hbm, ⟨16, _⟩ => ⟨S12x96x81920, .f32⟩
  | .local _ .vmem, ⟨0, _⟩ => ⟨S12x432x81920, .i32⟩
  | .local _ .vmem, ⟨1, _⟩ => ⟨S1728x96, .fp8e4m3⟩
  | .local _ .vmem, ⟨2, _⟩ => ⟨S1728x96, .f32⟩
  | .local _ .vmem, ⟨3, _⟩ => ⟨S96x1, .f32⟩
  | .local _ .vmem, ⟨4, _⟩ => ⟨S12x96x81920, .f32⟩
  | .local _ .smem, ⟨0, _⟩ => ⟨S1, .f32⟩
  | _, _ => ⟨S2x432x81920, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x432x81920 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1728x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1728x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x96x81920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gather.lean ====
abbrev S12x81920x64 : Shape := ⟨3, ![12, 81920, 64]⟩
abbrev S12x81920x27 : Shape := ⟨3, ![12, 81920, 27]⟩
abbrev S12x81920x16x4 : Shape := ⟨4, ![12, 81920, 16, 4]⟩
abbrev S12x81920x16 : Shape := ⟨3, ![12, 81920, 16]⟩
abbrev S12x16x81920 : Shape := ⟨3, ![12, 16, 81920]⟩
abbrev S12x27x81920 : Shape := ⟨3, ![12, 27, 81920]⟩
abbrev S2x432x81920 : Shape := ⟨3, ![2, 432, 81920]⟩
abbrev S82048 : Shape := ⟨1, ![82048]⟩
abbrev S2x8192 : Shape := ⟨2, ![2, 8192]⟩
abbrev S_ : Shape := ⟨0, ![]⟩
abbrev S2 : Shape := ⟨1, ![2]⟩
abbrev S81920 : Shape := ⟨1, ![81920]⟩
abbrev S1x1x81920 : Shape := ⟨3, ![1, 1, 81920]⟩
abbrev S1x8192 : Shape := ⟨2, ![1, 8192]⟩
abbrev S8192 : Shape := ⟨1, ![8192]⟩
abbrev S1x1x8192 : Shape := ⟨3, ![1, 1, 8192]⟩
abbrev S1 : Shape := ⟨1, ![1]⟩
abbrev S16 : Shape := ⟨1, ![16]⟩
abbrev S1x16 : Shape := ⟨2, ![1, 16]⟩

abbrev nBuf : Table → Nat
  | .hbm => 7
  | .local .scVector .vmem => 3
  | _ => 0

abbrev bufTy : (tb : Table) → Fin (nBuf tb) → BufTy
  | .hbm, ⟨0, _⟩ => ⟨S12x81920x64, .fp8e4m3⟩
  | .hbm, ⟨1, _⟩ => ⟨S12x81920x27, .i32⟩
  | .hbm, ⟨2, _⟩ => ⟨S12x81920x16x4, .fp8e4m3⟩
  | .hbm, ⟨3, _⟩ => ⟨S12x81920x16, .i32⟩
  | .hbm, ⟨4, _⟩ => ⟨S12x16x81920, .i32⟩
  | .hbm, ⟨5, _⟩ => ⟨S12x27x81920, .i32⟩
  | .hbm, ⟨6, _⟩ => ⟨S2x432x81920, .i32⟩
  | .local .scVector .vmem, ⟨0, _⟩ => ⟨S82048, .i32⟩
  | .local .scVector .vmem, ⟨1, _⟩ => ⟨S2x8192, .i32⟩
  | .local .scVector .vmem, ⟨2, _⟩ => ⟨S2x8192, .i32⟩
  | _, _ => ⟨S12x81920x64, .fp8e4m3⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v2_scv : Ref sig .scVector := ⟨.hbm, 4, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 3 → Nat :=
  let c0_i32 : BitVec 32 := 0#32
  let arg0 : BitVec 32 := BitVec.ofNat 32 (i 0).val
  let v0 : BitVec 32 := Scalar.addi c0_i32 arg0
  let arg1 : BitVec 32 := BitVec.ofNat 32 (i 1).val
  let c0_i32_1 : BitVec 32 := 0#32
  ![v0.toNat, arg1.toNat, 0]
def k0_off2 (i : grid0.Coords) : Fin 3 → Nat :=
  let c0_i32 : BitVec 32 := 0#32
  let arg0 : BitVec 32 := BitVec.ofNat 32 (i 0).val
  let v0 : BitVec 32 := Scalar.addi c0_i32 arg0
  let c0_i32_4 : BitVec 32 := 0#32
  let c0_i32_8 : BitVec 32 := 0#32
  ![v0.toNat, 0, 0]
def k0_off3 (i : grid0.Coords) : Fin 3 → Nat :=
  let c0_i32 : BitVec 32 := 0#32
  let arg0 : BitVec 32 := BitVec.ofNat 32 (i 0).val
  let v0 : BitVec 32 := Scalar.addi c0_i32 arg0
  let c0_i32_11 : BitVec 32 := 0#32
  let c8192_i32 : BitVec 32 := 8192#32
  ![v0.toNat, 0, 8192]
@[reducible] def k0_t1_loop : Scf.Loop 32 :=
  let c0_i32_16 : BitVec 32 := 0#32
  let c8_i32 : BitVec 32 := 8#32
  let v27 : BitVec 32 := Scalar.addi c0_i32_16 c8_i32
  let c1_i32_17 : BitVec 32 := 1#32
  ⟨c0_i32_16, v27, c1_i32_17⟩
def k0_off4 (k0_t1 : Fin k0_t1_loop.trips) : Fin 1 → Nat :=
  let c81920_i32 : BitVec 32 := 81920#32
  let c0_i32_37 : BitVec 32 := 0#32
  let c0_i32_16 : BitVec 32 := 0#32
  let c1_i32_17 : BitVec 32 := 1#32
  let arg11 : BitVec 32 := Scf.iv c0_i32_16 c1_i32_17 k0_t1
  let c16_i32 : BitVec 32 := 16#32
  let v57 : BitVec 32 := Scalar.muli arg11 c16_i32
  let v58 : BitVec 32 := Scalar.addi c0_i32_37 v57
  let v60 : BitVec 32 := Scalar.addi c81920_i32 v58
  let v61 : Index := Scalar.indexCast v60
  ![v61.toNat]
@[reducible] def k0_t2_loop : Scf.Loop 32 :=
  let c0_i32_23 : BitVec 32 := 0#32
  let c135_i32 : BitVec 32 := 135#32
  let v34 : BitVec 32 := Scalar.addi c0_i32_23 c135_i32
  let c1_i32_24 : BitVec 32 := 1#32
  ⟨c0_i32_23, v34, c1_i32_24⟩
def k0_off5 (i : grid0.Coords) (k0_t2 : Fin k0_t2_loop.trips) (c0_i32_38 : BitVec 32) : Fin 3 → Nat :=
  let c0_i32 : BitVec 32 := 0#32
  let arg0 : BitVec 32 := BitVec.ofNat 32 (i 0).val
  let v0 : BitVec 32 := Scalar.addi c0_i32 arg0
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let v59 : BitVec 32 := Scalar.addi v58 c0_i32_38
  let c0_i32_39 : BitVec 32 := 0#32
  let v61 : BitVec 1 := Scalar.cmpi .sgt v59 c0_i32_39
  let v62 : BitVec 32 := Scalar.extui v61
  let c0_i32_40 : BitVec 32 := 0#32
  let v63 : BitVec 1 := Scalar.cmpi .slt v59 c0_i32_40
  let v64 : BitVec 32 := Scalar.extui v63
  let v65 : BitVec 32 := Scalar.subi v62 v64
  let c10_i32 : BitVec 32 := 10#32
  let c0_i32_41 : BitVec 32 := 0#32
  let v66 : BitVec 1 := Scalar.cmpi .sgt c10_i32 c0_i32_41
  let v67 : BitVec 32 := Scalar.extui v66
  let c0_i32_42 : BitVec 32 := 0#32
  let v68 : BitVec 1 := Scalar.cmpi .slt c10_i32 c0_i32_42
  let v69 : BitVec 32 := Scalar.extui v68
  let v70 : BitVec 32 := Scalar.subi v67 v69
  let v71 : BitVec 1 := Scalar.cmpi .ne v65 v70
  let v72 : BitVec 32 := Scalar.remsi v59 c10_i32
  let c0_i32_43 : BitVec 32 := 0#32
  let v73 : BitVec 1 := Scalar.cmpi .ne v72 c0_i32_43
  let v74 : BitVec 1 := Scalar.andi v71 v73
  let v60 : BitVec 32 := Scalar.divsi v59 c10_i32
  let c1_i32_44 : BitVec 32 := 1#32
  let v75 : BitVec 32 := Scalar.subi v60 c1_i32_44
  let v76 : BitVec 32 := Scalar.select v74 v75 v60
  let c10_i32_45 : BitVec 32 := 10#32
  let c0_i32_46 : BitVec 32 := 0#32
  let v77 : BitVec 1 := Scalar.cmpi .eq c10_i32_45 c0_i32_46
  let c1_i32_47 : BitVec 32 := 1#32
  let v78 : BitVec 32 := Scalar.select v77 c1_i32_47 c10_i32_45
  let v79 : BitVec 32 := Scalar.remsi v59 v78
  let c0_i32_49 : BitVec 32 := 0#32
  let v81 : BitVec 1 := Scalar.cmpi .slt v79 c0_i32_49
  let c0_i32_50 : BitVec 32 := 0#32
  let v82 : BitVec 1 := Scalar.cmpi .slt v78 c0_i32_50
  let v83 : BitVec 1 := Scalar.xori v81 v82
  let c0_i32_48 : BitVec 32 := 0#32
  let v80 : BitVec 1 := Scalar.cmpi .ne v79 c0_i32_48
  let v84 : BitVec 1 := Scalar.andi v83 v80
  let v85 : BitVec 32 := Scalar.addi v79 v78
  let v86 : BitVec 32 := Scalar.select v84 v85 v79
  let c8192_i32_51 : BitVec 32 := 8192#32
  let v87 : BitVec 32 := Scalar.muli v86 c8192_i32_51
  ![v0.toNat, v76.toNat, v87.toNat]
def k0_cond1 (k0_t2 : Fin k0_t2_loop.trips) : BitVec 1 :=
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c0_i32_56 : BitVec 32 := 0#32
  let v98 : BitVec 1 := Scalar.cmpi .sgt v58 c0_i32_56
  let v99 : BitVec 32 := Scalar.extui v98
  let c0_i32_57 : BitVec 32 := 0#32
  let v100 : BitVec 1 := Scalar.cmpi .ne v99 c0_i32_57
  v100

def k0_off6 (i : grid0.Coords) (k0_t2 : Fin k0_t2_loop.trips) : Fin 3 → Nat :=
  let arg0 : BitVec 32 := BitVec.ofNat 32 (i 0).val
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c0_i32_38 : BitVec 32 := 0#32
  let v59 : BitVec 32 := Scalar.addi v58 c0_i32_38
  let c2_i32_128 : BitVec 32 := 2#32
  let v233 : BitVec 32 := Scalar.subi v59 c2_i32_128
  let c0_i32_130 : BitVec 32 := 0#32
  let v235 : BitVec 1 := Scalar.cmpi .sgt v233 c0_i32_130
  let v236 : BitVec 32 := Scalar.extui v235
  let c0_i32_131 : BitVec 32 := 0#32
  let v237 : BitVec 1 := Scalar.cmpi .slt v233 c0_i32_131
  let v238 : BitVec 32 := Scalar.extui v237
  let v239 : BitVec 32 := Scalar.subi v236 v238
  let c10_i32_129 : BitVec 32 := 10#32
  let c0_i32_132 : BitVec 32 := 0#32
  let v240 : BitVec 1 := Scalar.cmpi .sgt c10_i32_129 c0_i32_132
  let v241 : BitVec 32 := Scalar.extui v240
  let c0_i32_133 : BitVec 32 := 0#32
  let v242 : BitVec 1 := Scalar.cmpi .slt c10_i32_129 c0_i32_133
  let v243 : BitVec 32 := Scalar.extui v242
  let v244 : BitVec 32 := Scalar.subi v241 v243
  let v245 : BitVec 1 := Scalar.cmpi .ne v239 v244
  let v246 : BitVec 32 := Scalar.remsi v233 c10_i32_129
  let c0_i32_134 : BitVec 32 := 0#32
  let v247 : BitVec 1 := Scalar.cmpi .ne v246 c0_i32_134
  let v248 : BitVec 1 := Scalar.andi v245 v247
  let v234 : BitVec 32 := Scalar.divsi v233 c10_i32_129
  let c1_i32_135 : BitVec 32 := 1#32
  let v249 : BitVec 32 := Scalar.subi v234 c1_i32_135
  let v250 : BitVec 32 := Scalar.select v248 v249 v234
  let c16_i32_143 : BitVec 32 := 16#32
  let v262 : BitVec 32 := Scalar.muli v250 c16_i32_143
  let arg1 : BitVec 32 := BitVec.ofNat 32 (i 1).val
  let v263 : BitVec 32 := Scalar.addi v262 arg1
  let c10_i32_136 : BitVec 32 := 10#32
  let c0_i32_137 : BitVec 32 := 0#32
  let v251 : BitVec 1 := Scalar.cmpi .eq c10_i32_136 c0_i32_137
  let c1_i32_138 : BitVec 32 := 1#32
  let v252 : BitVec 32 := Scalar.select v251 c1_i32_138 c10_i32_136
  let v253 : BitVec 32 := Scalar.remsi v233 v252
  let c0_i32_140 : BitVec 32 := 0#32
  let v255 : BitVec 1 := Scalar.cmpi .slt v253 c0_i32_140
  let c0_i32_141 : BitVec 32 := 0#32
  let v256 : BitVec 1 := Scalar.cmpi .slt v252 c0_i32_141
  let v257 : BitVec 1 := Scalar.xori v255 v256
  let c0_i32_139 : BitVec 32 := 0#32
  let v254 : BitVec 1 := Scalar.cmpi .ne v253 c0_i32_139
  let v258 : BitVec 1 := Scalar.andi v257 v254
  let v259 : BitVec 32 := Scalar.addi v253 v252
  let v260 : BitVec 32 := Scalar.select v258 v259 v253
  let c8192_i32_142 : BitVec 32 := 8192#32
  let v261 : BitVec 32 := Scalar.muli v260 c8192_i32_142
  ![arg0.toNat, v263.toNat, v261.toNat]
@[reducible] def k0_t3_loop : Scf.Loop 32 :=
  let c0_i32_58 : BitVec 32 := 0#32
  let c512_i32 : BitVec 32 := 512#32
  let v101 : BitVec 32 := Scalar.addi c0_i32_58 c512_i32
  let c1_i32_59 : BitVec 32 := 1#32
  ⟨c0_i32_58, v101, c1_i32_59⟩
def k0_off7 (k0_t3 : Fin k0_t3_loop.trips) : Fin 2 → Nat :=
  let c0_i32_130 : BitVec 32 := 0#32
  let v235 : Index := Scalar.indexCast c0_i32_130
  let c0_i32_129 : BitVec 32 := 0#32
  let c0_i32_58 : BitVec 32 := 0#32
  let c1_i32_59 : BitVec 32 := 1#32
  let arg12 : BitVec 32 := Scf.iv c0_i32_58 c1_i32_59 k0_t3
  let c16_i32_128 : BitVec 32 := 16#32
  let v233 : BitVec 32 := Scalar.muli arg12 c16_i32_128
  let v234 : BitVec 32 := Scalar.addi c0_i32_129 v233
  let v236 : Index := Scalar.indexCast v234
  ![0, v236.toNat]

def k0_chk1 (v241 : IVec S16 32) : Prop :=
  (∀ a x, ((![v241] : Fin 1 → IVec S16 32) a x).toNat < S82048.size a)
theorem k0_idx1_inb : ∀ (v241 : IVec S16 32) (k0_hw1 : k0_chk1 v241), ∀ a x, ((![v241] : Fin 1 → IVec S16 32) a x).toNat < S82048.size a := fun v241 k0_hw1 => k0_hw1
def k0_off8 (k0_t3 : Fin k0_t3_loop.trips) : Fin 2 → Nat :=
  let c0_i32_132 : BitVec 32 := 0#32
  let v243 : Index := Scalar.indexCast c0_i32_132
  let c0_i32_129 : BitVec 32 := 0#32
  let c0_i32_58 : BitVec 32 := 0#32
  let c1_i32_59 : BitVec 32 := 1#32
  let arg12 : BitVec 32 := Scf.iv c0_i32_58 c1_i32_59 k0_t3
  let c16_i32_128 : BitVec 32 := 16#32
  let v233 : BitVec 32 := Scalar.muli arg12 c16_i32_128
  let v234 : BitVec 32 := Scalar.addi c0_i32_129 v233
  let v244 : Index := Scalar.indexCast v234
  ![0, v244.toNat]
def k0_off9 (i : grid0.Coords) (k0_t2 : Fin k0_t2_loop.trips) (c0_i32_38 : BitVec 32) : Fin 3 → Nat :=
  let arg0 : BitVec 32 := BitVec.ofNat 32 (i 0).val
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let v59 : BitVec 32 := Scalar.addi v58 c0_i32_38
  let c0_i32_62 : BitVec 32 := 0#32
  let v103 : BitVec 1 := Scalar.cmpi .sgt v59 c0_i32_62
  let v104 : BitVec 32 := Scalar.extui v103
  let c0_i32_63 : BitVec 32 := 0#32
  let v105 : BitVec 1 := Scalar.cmpi .slt v59 c0_i32_63
  let v106 : BitVec 32 := Scalar.extui v105
  let v107 : BitVec 32 := Scalar.subi v104 v106
  let c10_i32_61 : BitVec 32 := 10#32
  let c0_i32_64 : BitVec 32 := 0#32
  let v108 : BitVec 1 := Scalar.cmpi .sgt c10_i32_61 c0_i32_64
  let v109 : BitVec 32 := Scalar.extui v108
  let c0_i32_65 : BitVec 32 := 0#32
  let v110 : BitVec 1 := Scalar.cmpi .slt c10_i32_61 c0_i32_65
  let v111 : BitVec 32 := Scalar.extui v110
  let v112 : BitVec 32 := Scalar.subi v109 v111
  let v113 : BitVec 1 := Scalar.cmpi .ne v107 v112
  let v114 : BitVec 32 := Scalar.remsi v59 c10_i32_61
  let c0_i32_66 : BitVec 32 := 0#32
  let v115 : BitVec 1 := Scalar.cmpi .ne v114 c0_i32_66
  let v116 : BitVec 1 := Scalar.andi v113 v115
  let v102 : BitVec 32 := Scalar.divsi v59 c10_i32_61
  let c1_i32_67 : BitVec 32 := 1#32
  let v117 : BitVec 32 := Scalar.subi v102 c1_i32_67
  let v118 : BitVec 32 := Scalar.select v116 v117 v102
  let c16_i32 : BitVec 32 := 16#32
  let v130 : BitVec 32 := Scalar.muli v118 c16_i32
  let arg1 : BitVec 32 := BitVec.ofNat 32 (i 1).val
  let v131 : BitVec 32 := Scalar.addi v130 arg1
  let c10_i32_68 : BitVec 32 := 10#32
  let c0_i32_69 : BitVec 32 := 0#32
  let v119 : BitVec 1 := Scalar.cmpi .eq c10_i32_68 c0_i32_69
  let c1_i32_70 : BitVec 32 := 1#32
  let v120 : BitVec 32 := Scalar.select v119 c1_i32_70 c10_i32_68
  let v121 : BitVec 32 := Scalar.remsi v59 v120
  let c0_i32_72 : BitVec 32 := 0#32
  let v123 : BitVec 1 := Scalar.cmpi .slt v121 c0_i32_72
  let c0_i32_73 : BitVec 32 := 0#32
  let v124 : BitVec 1 := Scalar.cmpi .slt v120 c0_i32_73
  let v125 : BitVec 1 := Scalar.xori v123 v124
  let c0_i32_71 : BitVec 32 := 0#32
  let v122 : BitVec 1 := Scalar.cmpi .ne v121 c0_i32_71
  let v126 : BitVec 1 := Scalar.andi v125 v122
  let v127 : BitVec 32 := Scalar.addi v121 v120
  let v128 : BitVec 32 := Scalar.select v126 v127 v121
  let c8192_i32_74 : BitVec 32 := 8192#32
  let v129 : BitVec 32 := Scalar.muli v128 c8192_i32_74
  ![arg0.toNat, v131.toNat, v129.toNat]
def k0_cond2 (k0_t2 : Fin k0_t2_loop.trips) : BitVec 1 :=
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c0_i32_38 : BitVec 32 := 0#32
  let v59 : BitVec 32 := Scalar.addi v58 c0_i32_38
  let c2_i32_79 : BitVec 32 := 2#32
  let v142 : BitVec 32 := Scalar.addi v59 c2_i32_79
  let c270_i32 : BitVec 32 := 270#32
  let v143 : BitVec 1 := Scalar.cmpi .slt v142 c270_i32
  let v144 : BitVec 32 := Scalar.extui v143
  let c0_i32_80 : BitVec 32 := 0#32
  let v145 : BitVec 1 := Scalar.cmpi .ne v144 c0_i32_80
  v145

def k0_off10 (i : grid0.Coords) (k0_t2 : Fin k0_t2_loop.trips) : Fin 3 → Nat :=
  let c0_i32 : BitVec 32 := 0#32
  let arg0 : BitVec 32 := BitVec.ofNat 32 (i 0).val
  let v0 : BitVec 32 := Scalar.addi c0_i32 arg0
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c0_i32_38 : BitVec 32 := 0#32
  let v59 : BitVec 32 := Scalar.addi v58 c0_i32_38
  let c2_i32_128 : BitVec 32 := 2#32
  let v233 : BitVec 32 := Scalar.addi v59 c2_i32_128
  let c0_i32_130 : BitVec 32 := 0#32
  let v235 : BitVec 1 := Scalar.cmpi .sgt v233 c0_i32_130
  let v236 : BitVec 32 := Scalar.extui v235
  let c0_i32_131 : BitVec 32 := 0#32
  let v237 : BitVec 1 := Scalar.cmpi .slt v233 c0_i32_131
  let v238 : BitVec 32 := Scalar.extui v237
  let v239 : BitVec 32 := Scalar.subi v236 v238
  let c10_i32_129 : BitVec 32 := 10#32
  let c0_i32_132 : BitVec 32 := 0#32
  let v240 : BitVec 1 := Scalar.cmpi .sgt c10_i32_129 c0_i32_132
  let v241 : BitVec 32 := Scalar.extui v240
  let c0_i32_133 : BitVec 32 := 0#32
  let v242 : BitVec 1 := Scalar.cmpi .slt c10_i32_129 c0_i32_133
  let v243 : BitVec 32 := Scalar.extui v242
  let v244 : BitVec 32 := Scalar.subi v241 v243
  let v245 : BitVec 1 := Scalar.cmpi .ne v239 v244
  let v246 : BitVec 32 := Scalar.remsi v233 c10_i32_129
  let c0_i32_134 : BitVec 32 := 0#32
  let v247 : BitVec 1 := Scalar.cmpi .ne v246 c0_i32_134
  let v248 : BitVec 1 := Scalar.andi v245 v247
  let v234 : BitVec 32 := Scalar.divsi v233 c10_i32_129
  let c1_i32_135 : BitVec 32 := 1#32
  let v249 : BitVec 32 := Scalar.subi v234 c1_i32_135
  let v250 : BitVec 32 := Scalar.select v248 v249 v234
  let c10_i32_136 : BitVec 32 := 10#32
  let c0_i32_137 : BitVec 32 := 0#32
  let v251 : BitVec 1 := Scalar.cmpi .eq c10_i32_136 c0_i32_137
  let c1_i32_138 : BitVec 32 := 1#32
  let v252 : BitVec 32 := Scalar.select v251 c1_i32_138 c10_i32_136
  let v253 : BitVec 32 := Scalar.remsi v233 v252
  let c0_i32_140 : BitVec 32 := 0#32
  let v255 : BitVec 1 := Scalar.cmpi .slt v253 c0_i32_140
  let c0_i32_141 : BitVec 32 := 0#32
  let v256 : BitVec 1 := Scalar.cmpi .slt v252 c0_i32_141
  let v257 : BitVec 1 := Scalar.xori v255 v256
  let c0_i32_139 : BitVec 32 := 0#32
  let v254 : BitVec 1 := Scalar.cmpi .ne v253 c0_i32_139
  let v258 : BitVec 1 := Scalar.andi v257 v254
  let v259 : BitVec 32 := Scalar.addi v253 v252
  let v260 : BitVec 32 := Scalar.select v258 v259 v253
  let c8192_i32_142 : BitVec 32 := 8192#32
  let v261 : BitVec 32 := Scalar.muli v260 c8192_i32_142
  ![v0.toNat, v250.toNat, v261.toNat]
def k0_cond3 (k0_t2 : Fin k0_t2_loop.trips) : BitVec 1 :=
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c0_i32_100 : BitVec 32 := 0#32
  let v185 : BitVec 1 := Scalar.cmpi .sgt v58 c0_i32_100
  let v186 : BitVec 32 := Scalar.extui v185
  let c0_i32_101 : BitVec 32 := 0#32
  let v187 : BitVec 1 := Scalar.cmpi .ne v186 c0_i32_101
  v187

def k0_off11 (i : grid0.Coords) (k0_t2 : Fin k0_t2_loop.trips) : Fin 3 → Nat :=
  let arg0 : BitVec 32 := BitVec.ofNat 32 (i 0).val
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c1_i32_81 : BitVec 32 := 1#32
  let v146 : BitVec 32 := Scalar.addi v58 c1_i32_81
  let c2_i32_128 : BitVec 32 := 2#32
  let v233 : BitVec 32 := Scalar.subi v146 c2_i32_128
  let c0_i32_130 : BitVec 32 := 0#32
  let v235 : BitVec 1 := Scalar.cmpi .sgt v233 c0_i32_130
  let v236 : BitVec 32 := Scalar.extui v235
  let c0_i32_131 : BitVec 32 := 0#32
  let v237 : BitVec 1 := Scalar.cmpi .slt v233 c0_i32_131
  let v238 : BitVec 32 := Scalar.extui v237
  let v239 : BitVec 32 := Scalar.subi v236 v238
  let c10_i32_129 : BitVec 32 := 10#32
  let c0_i32_132 : BitVec 32 := 0#32
  let v240 : BitVec 1 := Scalar.cmpi .sgt c10_i32_129 c0_i32_132
  let v241 : BitVec 32 := Scalar.extui v240
  let c0_i32_133 : BitVec 32 := 0#32
  let v242 : BitVec 1 := Scalar.cmpi .slt c10_i32_129 c0_i32_133
  let v243 : BitVec 32 := Scalar.extui v242
  let v244 : BitVec 32 := Scalar.subi v241 v243
  let v245 : BitVec 1 := Scalar.cmpi .ne v239 v244
  let v246 : BitVec 32 := Scalar.remsi v233 c10_i32_129
  let c0_i32_134 : BitVec 32 := 0#32
  let v247 : BitVec 1 := Scalar.cmpi .ne v246 c0_i32_134
  let v248 : BitVec 1 := Scalar.andi v245 v247
  let v234 : BitVec 32 := Scalar.divsi v233 c10_i32_129
  let c1_i32_135 : BitVec 32 := 1#32
  let v249 : BitVec 32 := Scalar.subi v234 c1_i32_135
  let v250 : BitVec 32 := Scalar.select v248 v249 v234
  let c16_i32_143 : BitVec 32 := 16#32
  let v262 : BitVec 32 := Scalar.muli v250 c16_i32_143
  let arg1 : BitVec 32 := BitVec.ofNat 32 (i 1).val
  let v263 : BitVec 32 := Scalar.addi v262 arg1
  let c10_i32_136 : BitVec 32 := 10#32
  let c0_i32_137 : BitVec 32 := 0#32
  let v251 : BitVec 1 := Scalar.cmpi .eq c10_i32_136 c0_i32_137
  let c1_i32_138 : BitVec 32 := 1#32
  let v252 : BitVec 32 := Scalar.select v251 c1_i32_138 c10_i32_136
  let v253 : BitVec 32 := Scalar.remsi v233 v252
  let c0_i32_140 : BitVec 32 := 0#32
  let v255 : BitVec 1 := Scalar.cmpi .slt v253 c0_i32_140
  let c0_i32_141 : BitVec 32 := 0#32
  let v256 : BitVec 1 := Scalar.cmpi .slt v252 c0_i32_141
  let v257 : BitVec 1 := Scalar.xori v255 v256
  let c0_i32_139 : BitVec 32 := 0#32
  let v254 : BitVec 1 := Scalar.cmpi .ne v253 c0_i32_139
  let v258 : BitVec 1 := Scalar.andi v257 v254
  let v259 : BitVec 32 := Scalar.addi v253 v252
  let v260 : BitVec 32 := Scalar.select v258 v259 v253
  let c8192_i32_142 : BitVec 32 := 8192#32
  let v261 : BitVec 32 := Scalar.muli v260 c8192_i32_142
  ![arg0.toNat, v263.toNat, v261.toNat]
@[reducible] def k0_t4_loop : Scf.Loop 32 :=
  let c0_i32_102 : BitVec 32 := 0#32
  let c512_i32_103 : BitVec 32 := 512#32
  let v188 : BitVec 32 := Scalar.addi c0_i32_102 c512_i32_103
  let c1_i32_104 : BitVec 32 := 1#32
  ⟨c0_i32_102, v188, c1_i32_104⟩
def k0_off12 (k0_t4 : Fin k0_t4_loop.trips) : Fin 2 → Nat :=
  let c1_i32_130 : BitVec 32 := 1#32
  let v235 : Index := Scalar.indexCast c1_i32_130
  let c0_i32_129 : BitVec 32 := 0#32
  let c0_i32_102 : BitVec 32 := 0#32
  let c1_i32_104 : BitVec 32 := 1#32
  let arg12 : BitVec 32 := Scf.iv c0_i32_102 c1_i32_104 k0_t4
  let c16_i32_128 : BitVec 32 := 16#32
  let v233 : BitVec 32 := Scalar.muli arg12 c16_i32_128
  let v234 : BitVec 32 := Scalar.addi c0_i32_129 v233
  let v236 : Index := Scalar.indexCast v234
  ![1, v236.toNat]

def k0_chk2 (v241 : IVec S16 32) : Prop :=
  (∀ a x, ((![v241] : Fin 1 → IVec S16 32) a x).toNat < S82048.size a)
theorem k0_idx2_inb : ∀ (v241 : IVec S16 32) (k0_hw2 : k0_chk2 v241), ∀ a x, ((![v241] : Fin 1 → IVec S16 32) a x).toNat < S82048.size a := fun v241 k0_hw2 => k0_hw2
def k0_off13 (k0_t4 : Fin k0_t4_loop.trips) : Fin 2 → Nat :=
  let c1_i32_132 : BitVec 32 := 1#32
  let v243 : Index := Scalar.indexCast c1_i32_132
  let c0_i32_129 : BitVec 32 := 0#32
  let c0_i32_102 : BitVec 32 := 0#32
  let c1_i32_104 : BitVec 32 := 1#32
  let arg12 : BitVec 32 := Scf.iv c0_i32_102 c1_i32_104 k0_t4
  let c16_i32_128 : BitVec 32 := 16#32
  let v233 : BitVec 32 := Scalar.muli arg12 c16_i32_128
  let v234 : BitVec 32 := Scalar.addi c0_i32_129 v233
  let v244 : Index := Scalar.indexCast v234
  ![1, v244.toNat]
def k0_cond4 (k0_t2 : Fin k0_t2_loop.trips) : BitVec 1 :=
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c1_i32_81 : BitVec 32 := 1#32
  let v146 : BitVec 32 := Scalar.addi v58 c1_i32_81
  let c2_i32_125 : BitVec 32 := 2#32
  let v229 : BitVec 32 := Scalar.addi v146 c2_i32_125
  let c270_i32_126 : BitVec 32 := 270#32
  let v230 : BitVec 1 := Scalar.cmpi .slt v229 c270_i32_126
  let v231 : BitVec 32 := Scalar.extui v230
  let c0_i32_127 : BitVec 32 := 0#32
  let v232 : BitVec 1 := Scalar.cmpi .ne v231 c0_i32_127
  v232

def k0_off14 (i : grid0.Coords) (k0_t2 : Fin k0_t2_loop.trips) : Fin 3 → Nat :=
  let c0_i32 : BitVec 32 := 0#32
  let arg0 : BitVec 32 := BitVec.ofNat 32 (i 0).val
  let v0 : BitVec 32 := Scalar.addi c0_i32 arg0
  let c0_i32_37 : BitVec 32 := 0#32
  let c0_i32_23 : BitVec 32 := 0#32
  let c1_i32_24 : BitVec 32 := 1#32
  let arg11 : BitVec 32 := Scf.iv c0_i32_23 c1_i32_24 k0_t2
  let c2_i32 : BitVec 32 := 2#32
  let v57 : BitVec 32 := Scalar.muli arg11 c2_i32
  let v58 : BitVec 32 := Scalar.addi c0_i32_37 v57
  let c1_i32_81 : BitVec 32 := 1#32
  let v146 : BitVec 32 := Scalar.addi v58 c1_i32_81
  let c2_i32_128 : BitVec 32 := 2#32
  let v233 : BitVec 32 := Scalar.addi v146 c2_i32_128
  let c0_i32_130 : BitVec 32 := 0#32
  let v235 : BitVec 1 := Scalar.cmpi .sgt v233 c0_i32_130
  let v236 : BitVec 32 := Scalar.extui v235
  let c0_i32_131 : BitVec 32 := 0#32
  let v237 : BitVec 1 := Scalar.cmpi .slt v233 c0_i32_131
  let v238 : BitVec 32 := Scalar.extui v237
  let v239 : BitVec 32 := Scalar.subi v236 v238
  let c10_i32_129 : BitVec 32 := 10#32
  let c0_i32_132 : BitVec 32 := 0#32
  let v240 : BitVec 1 := Scalar.cmpi .sgt c10_i32_129 c0_i32_132
  let v241 : BitVec 32 := Scalar.extui v240
  let c0_i32_133 : BitVec 32 := 0#32
  let v242 : BitVec 1 := Scalar.cmpi .slt c10_i32_129 c0_i32_133
  let v243 : BitVec 32 := Scalar.extui v242
  let v244 : BitVec 32 := Scalar.subi v241 v243
  let v245 : BitVec 1 := Scalar.cmpi .ne v239 v244
  let v246 : BitVec 32 := Scalar.remsi v233 c10_i32_129
  let c0_i32_134 : BitVec 32 := 0#32
  let v247 : BitVec 1 := Scalar.cmpi .ne v246 c0_i32_134
  let v248 : BitVec 1 := Scalar.andi v245 v247
  let v234 : BitVec 32 := Scalar.divsi v233 c10_i32_129
  let c1_i32_135 : BitVec 32 := 1#32
  let v249 : BitVec 32 := Scalar.subi v234 c1_i32_135
  let v250 : BitVec 32 := Scalar.select v248 v249 v234
  let c10_i32_136 : BitVec 32 := 10#32
  let c0_i32_137 : BitVec 32 := 0#32
  let v251 : BitVec 1 := Scalar.cmpi .eq c10_i32_136 c0_i32_137
  let c1_i32_138 : BitVec 32 := 1#32
  let v252 : BitVec 32 := Scalar.select v251 c1_i32_138 c10_i32_136
  let v253 : BitVec 32 := Scalar.remsi v233 v252
  let c0_i32_140 : BitVec 32 := 0#32
  let v255 : BitVec 1 := Scalar.cmpi .slt v253 c0_i32_140
  let c0_i32_141 : BitVec 32 := 0#32
  let v256 : BitVec 1 := Scalar.cmpi .slt v252 c0_i32_141
  let v257 : BitVec 1 := Scalar.xori v255 v256
  let c0_i32_139 : BitVec 32 := 0#32
  let v254 : BitVec 1 := Scalar.cmpi .ne v253 c0_i32_139
  let v258 : BitVec 1 := Scalar.andi v257 v254
  let v259 : BitVec 32 := Scalar.addi v253 v252
  let v260 : BitVec 32 := Scalar.select v258 v259 v253
  let c8192_i32_142 : BitVec 32 := 8192#32
  let v261 : BitVec 32 := Scalar.muli v260 c8192_i32_142
  ![v0.toNat, v250.toNat, v261.toNat]
def k0_off15 (i : grid0.Coords) : Fin 3 → Nat :=
  let arg0 : BitVec 32 := BitVec.ofNat 32 (i 0).val
  let c416_i32 : BitVec 32 := 416#32
  let arg1 : BitVec 32 := BitVec.ofNat 32 (i 1).val
  let v35 : BitVec 32 := Scalar.addi c416_i32 arg1
  let c65536_i32 : BitVec 32 := 65536#32
  ![arg0.toNat, v35.toNat, 65536]
def k0_off16 (i : grid0.Coords) : Fin 3 → Nat :=
  let arg0 : BitVec 32 := BitVec.ofNat 32 (i 0).val
  let c416_i32_31 : BitVec 32 := 416#32
  let arg1 : BitVec 32 := BitVec.ofNat 32 (i 1).val
  let v46 : BitVec 32 := Scalar.addi c416_i32_31 arg1
  let c73728_i32 : BitVec 32 := 73728#32
  ![arg0.toNat, v46.toNat, 73728]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S12x81920x64 : Shape := ⟨3, ![12, 81920, 64]⟩
abbrev S12x81920x27 : Shape := ⟨3, ![12, 81920, 27]⟩
abbrev S12x81920x16x4 : Shape := ⟨4, ![12, 81920, 16, 4]⟩
abbrev S12x81920x16 : Shape := ⟨3, ![12, 81920, 16]⟩
abbrev S12x16x81920 : Shape := ⟨3, ![12, 16, 81920]⟩
abbrev S2x16x81920 : Shape := ⟨3, ![2, 16, 81920]⟩
abbrev S12x27x81920 : Shape := ⟨3, ![12, 27, 81920]⟩
abbrev S2x27x81920 : Shape := ⟨3, ![2, 27, 81920]⟩
abbrev S2x1x16x81920 : Shape := ⟨4, ![2, 1, 16, 81920]⟩
abbrev S_ : Shape := ⟨0, ![]⟩
abbrev S2x27x1x81920 : Shape := ⟨4, ![2, 27, 1, 81920]⟩
abbrev S2x27x81920x1 : Shape := ⟨4, ![2, 27, 81920, 1]⟩
abbrev S2x27x16x81920 : Shape := ⟨4, ![2, 27, 16, 81920]⟩
abbrev S2x432x81920 : Shape := ⟨3, ![2, 432, 81920]⟩

abbrev nBuf : Space → Nat
  | .hbm => 32
  | .vmem => 0
  | .smem => 0
  | _ => 0

abbrev bufTy : (tb : Table) → Fin (tcTables nBuf tb) → BufTy
  | .hbm, ⟨0, _⟩ => ⟨S12x81920x64, .fp8e4m3⟩
  | .hbm, ⟨1, _⟩ => ⟨S12x81920x27, .i32⟩
  | .hbm, ⟨2, _⟩ => ⟨S12x81920x16x4, .fp8e4m3⟩
  | .hbm, ⟨3, _⟩ => ⟨S12x81920x16, .i32⟩
  | .hbm, ⟨4, _⟩ => ⟨S12x16x81920, .i32⟩
  | .hbm, ⟨5, _⟩ => ⟨S2x16x81920, .i32⟩
  | .hbm, ⟨6, _⟩ => ⟨S12x27x81920, .i32⟩
  | .hbm, ⟨7, _⟩ => ⟨S2x27x81920, .i32⟩
  | .hbm, ⟨8, _⟩ => ⟨S2x1x16x81920, .i32⟩
  | .hbm, ⟨9, _⟩ => ⟨S_, .i32⟩
  | .hbm, ⟨10, _⟩ => ⟨S2x27x81920, .i32⟩
  | .hbm, ⟨11, _⟩ => ⟨S2x27x81920, .i32⟩
  | .hbm, ⟨12, _⟩ => ⟨S2x27x1x81920, .i32⟩
  | .hbm, ⟨13, _⟩ => ⟨S_, .i32⟩
  | .hbm, ⟨14, _⟩ => ⟨S2x27x1x81920, .i32⟩
  | .hbm, ⟨15, _⟩ => ⟨S2x27x1x81920, .i1⟩
  | .hbm, ⟨16, _⟩ => ⟨S_, .i32⟩
  | .hbm, ⟨17, _⟩ => ⟨S2x27x1x81920, .i32⟩
  | .hbm, ⟨18, _⟩ => ⟨S2x27x1x81920, .i32⟩
  | .hbm, ⟨19, _⟩ => ⟨S2x27x1x81920, .i32⟩
  | .hbm, ⟨20, _⟩ => ⟨S2x27x81920x1, .i32⟩
  | .hbm, ⟨21, _⟩ => ⟨S2x16x81920, .i32⟩
  | .hbm, ⟨22, _⟩ => ⟨S2x27x16x81920, .i32⟩
  | .hbm, ⟨23, _⟩ => ⟨S_, .i32⟩
  | .hbm, ⟨24, _⟩ => ⟨S2x27x81920, .i32⟩
  | .hbm, ⟨25, _⟩ => ⟨S2x27x81920, .i1⟩
  | .hbm, ⟨26, _⟩ => ⟨S2x27x1x81920, .i1⟩
  | .hbm, ⟨27, _⟩ => ⟨S_, .i32⟩
  | .hbm, ⟨28, _⟩ => ⟨S2x27x16x81920, .i1⟩
  | .hbm, ⟨29, _⟩ => ⟨S2x27x16x81920, .i32⟩
  | .hbm, ⟨30, _⟩ => ⟨S2x27x16x81920, .i32⟩
  | .hbm, ⟨31, _⟩ => ⟨S2x432x81920, .i32⟩
  | _, _ => ⟨S12x81920x64, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [BitOps F]
-- ==== Proof.GatherOffsets.lean ====
/-
  The gather's branches, trip counts and transfer offsets in closed form.
-/
module

public import proofs.«01_k».proof.Defs
public import proofs.«01_k».proof.Proof.Gen.Gather

@[expose] public section

noncomputable section

namespace Cert.Proof.GatherTile

open Cert.Gather Cert.Gather.Gen

open Idealize.ShloMosaic

/-! ## The conditions and offsets in closed form -/

theorem cond1_iff : ∀ t : Fin k0_t2_loop.trips, k0_cond1 t = 1#1 ↔ 0 < t.val := by decide +kernel
theorem cond2_iff : ∀ t : Fin k0_t2_loop.trips, k0_cond2 t = 1#1 ↔ t.val < 134 := by decide +kernel
theorem cond3_iff : ∀ t : Fin k0_t2_loop.trips, k0_cond3 t = 1#1 ↔ 0 < t.val := by decide +kernel
theorem cond4_iff : ∀ t : Fin k0_t2_loop.trips, k0_cond4 t = 1#1 ↔ t.val < 134 := by decide +kernel
theorem trips1 : k0_t1_loop.trips = 8 := by decide +kernel
theorem trips2 : k0_t2_loop.trips = 135 := by decide +kernel
theorem trips3 : k0_t3_loop.trips = 512 := by decide +kernel
theorem trips4 : k0_t4_loop.trips = 512 := by decide +kernel

/-- Where step `t` reads its neighbour numbers. -/
abbrev nOff (L : grid0.Coords) (t : ℕ) : Fin 3 → ℕ := ![(L 0).val, t / 10, t % 10 * 8192]
/-- Where step `t` writes its gathered words. -/
abbrev gOff (L : grid0.Coords) (t : ℕ) : Fin 3 → ℕ := ![(L 0).val, t / 10 * 16 + (L 1).val, t % 10 * 8192]

theorem off2_eq : ∀ i : grid0.Coords, k0_off2 i = nOff i 0 := by decide +kernel
theorem off3_eq : ∀ i : grid0.Coords, k0_off3 i = nOff i 1 := by decide +kernel
theorem off6_eq : ∀ (i : grid0.Coords) (t : Fin k0_t2_loop.trips), k0_cond1 t = 1#1 → k0_off6 i t = gOff i (2 * t.val - 2) := by decide +kernel
theorem off11_eq : ∀ (i : grid0.Coords) (t : Fin k0_t2_loop.trips), k0_cond3 t = 1#1 → k0_off11 i t = gOff i (2 * t.val - 1) := by decide +kernel
theorem off9_0_eq : ∀ (i : grid0.Coords) (t : Fin k0_t2_loop.trips), k0_off9 i t 0#32 = gOff i (2 * t.val) := by decide +kernel
theorem off9_1_eq : ∀ (i : grid0.Coords) (t : Fin k0_t2_loop.trips), k0_off9 i t 1#32 = gOff i (2 * t.val + 1) := by decide +kernel
theorem off10_eq : ∀ (i : grid0.Coords) (t : Fin k0_t2_loop.trips), k0_cond2 t = 1#1 → k0_off10 i t = nOff i (2 * t.val + 2) := by decide +kernel
theorem off14_eq : ∀ (i : grid0.Coords) (t : Fin k0_t2_loop.trips), k0_cond4 t = 1#1 → k0_off14 i t = nOff i (2 * t.val + 3) := by decide +kernel
theorem off1_eq' : ∀ i : grid0.Coords, k0_off1 i = ![(i 0).val, (i 1).val, 0] := k0_off1_eq

end Cert.Proof.GatherTile

end
-- ==== Proof.GatherSpec.lean ====
/-
  The gather's vocabulary: the pieces of the arrays its transfers move
  (as memrefs, with the element under each index), the steps into which a vector subcore cuts its part of the result,
  and the words the result ends with.

  A vector subcore `(c, w)` works in 270 steps. Step `t` is kernel offset `t / 10`, voxels `t % 10 · 8192` up to the
  next 8192: it takes the row `(c, t / 10)` of the neighbour numbers there and fills row `(c, t / 10 · 16 + w)` of the
  result there.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pointwise.Index
public import Idealize.ShloMosaic.Lib.Tactic
public import Idealize.ShloMosaic.Lib.ViewIndex
public import proofs.«01_k».proof.Proof.Gen.Gather
public import proofs.«01_k».proof.Proof.GatherOffsets
public import proofs.«01_k».proof.Proof.Gen.Gather.Skeleton
public import proofs.«01_k».proof.Proof.Gen.Pre_nbr_in_scene

@[expose] public section

noncomputable section

namespace Cert.Proof.GatherTile

open Cert.Gather Cert.Gather.Gen

open Idealize.ShloMosaic
open Idealize.ShloMosaic.SparseCore (S V T)

theorem lt0 (L : grid0.Coords) : (L 0).val < 2 := (L 0).isLt
theorem lt1 (L : grid0.Coords) : (L 1).val < 16 := (L 1).isLt

/-! ## The memrefs -/

abbrev xV : Memref sig .scVector .hbm S12x16x81920 .i32 := Memref.whole main_v2_scv
abbrev nV : Memref sig .scVector .hbm S12x27x81920 .i32 := Memref.whole main_v3_scv
abbrev gV : Memref sig .scVector .hbm S2x432x81920 .i32 := Memref.whole main_v4_scv
abbrev sT : Memref sig .scVector .vmem S82048 .i32 := Memref.whole cc0_scratch0
abbrev sI : Memref sig .scVector .vmem S2x8192 .i32 := Memref.whole cc0_scratch1
abbrev sO : Memref sig .scVector .vmem S2x8192 .i32 := Memref.whole cc0_scratch2

/-- 8192 neighbour numbers of a row. -/
abbrev nM (off : Fin 3 → ℕ) (h : ∀ a, off a + S1x1x8192.size a ≤ S12x27x81920.size a) : Memref sig .scVector .hbm S8192 .i32 :=
  (nV.slice (Rect.unit (s := S12x27x81920) off S1x1x8192.size h) (fun _ => rfl)).squeeze S8192 squeezes_S1x1x8192_S8192
/-- 8192 words of a row of the result. -/
abbrev gM (off : Fin 3 → ℕ) (h : ∀ a, off a + S1x1x8192.size a ≤ S2x432x81920.size a) : Memref sig .scVector .hbm S8192 .i32 :=
  (gV.slice (Rect.unit (s := S2x432x81920) off S1x1x8192.size h) (fun _ => rfl)).squeeze S8192 squeezes_S1x1x8192_S8192
/-- A row of `x`. -/
abbrev xM (off : Fin 3 → ℕ) (h : ∀ a, off a + S1x1x81920.size a ≤ S12x16x81920.size a) : Memref sig .scVector .hbm S81920 .i32 :=
  (xV.slice (Rect.unit (s := S12x16x81920) off S1x1x81920.size h) (fun _ => rfl)).squeeze S81920 squeezes_S1x1x81920_S81920
/-- The part of the table the row of `x` is copied to. -/
abbrev tM : Memref sig .scVector .vmem S81920 .i32 :=
  sT.slice (Rect.unit (s := S82048) ![0] S81920.size inb_S82048_S81920_0) (fun _ => rfl)
/-- A row of a two-row scratch. -/
abbrev rowM (B : Memref sig .scVector .vmem S2x8192 .i32) (off : Fin 2 → ℕ) (h : ∀ a, off a + S1x8192.size a ≤ S2x8192.size a) : Memref sig .scVector .vmem S8192 .i32 :=
  (B.slice (Rect.unit (s := S2x8192) off S1x8192.size h) (fun _ => rfl)).squeeze S8192 squeezes_S1x8192_S8192

/-! ## The element under each index -/

theorem nM_emb {off : Fin 3 → ℕ} (h : ∀ a, off a + S1x1x8192.size a ≤ S12x27x81920.size a) (j : Fin 8192)
    (a : Fin 12) (b : Fin 27) (v : Fin 81920) (ha : off 0 = a.val) (hb : off 1 = b.val) (hv : off 2 + j.val = v.val) :
    (nM off h).view.emb (ix1 j) = (ix3 a b v : S12x27x81920.Idx) := by
  have e : Shape.reshapeEquiv squeezes_S1x1x8192_S8192.numel_eq (ix1 j) = (ix3 (0 : Fin 1) (0 : Fin 1) j : S1x1x8192.Idx) :=
    Shape.reshapeEquiv_eq_of_rowMajor _ (by
      rw [Shape.rowMajor_val_one, Shape.rowMajor_val_three]; simp)
  show (Rect.unit (s := S12x27x81920) off S1x1x8192.size h).emb (Shape.reshapeEquiv squeezes_S1x1x8192_S8192.numel_eq (ix1 j)) = _
  rw [e]
  refine Shape.idx3_ext ?_ ?_ ?_
  · show off 0 + 1 * 0 = a.val; omega
  · show off 1 + 1 * 0 = b.val; omega
  · show off 2 + 1 * j.val = v.val; omega

theorem gM_emb {off : Fin 3 → ℕ} (h : ∀ a, off a + S1x1x8192.size a ≤ S2x432x81920.size a) (j : Fin 8192)
    (a : Fin 2) (b : Fin 432) (v : Fin 81920) (ha : off 0 = a.val) (hb : off 1 = b.val) (hv : off 2 + j.val = v.val) :
    (gM off h).view.emb (ix1 j) = (ix3 a b v : S2x432x81920.Idx) := by
  have e : Shape.reshapeEquiv squeezes_S1x1x8192_S8192.numel_eq (ix1 j) = (ix3 (0 : Fin 1) (0 : Fin 1) j : S1x1x8192.Idx) :=
    Shape.reshapeEquiv_eq_of_rowMajor _ (by
      rw [Shape.rowMajor_val_one, Shape.rowMajor_val_three]; simp)
  show (Rect.unit (s := S2x432x81920) off S1x1x8192.size h).emb (Shape.reshapeEquiv squeezes_S1x1x8192_S8192.numel_eq (ix1 j)) = _
  rw [e]
  refine Shape.idx3_ext ?_ ?_ ?_
  · show off 0 + 1 * 0 = a.val; omega
  · show off 1 + 1 * 0 = b.val; omega
  · show off 2 + 1 * j.val = v.val; omega

theorem xM_emb {off : Fin 3 → ℕ} (h : ∀ a, off a + S1x1x81920.size a ≤ S12x16x81920.size a) (j : Fin 81920)
    (a : Fin 12) (b : Fin 16) (ha : off 0 = a.val) (hb : off 1 = b.val) (hv : off 2 = 0) :
    (xM off h).view.emb (ix1 j) = (ix3 a b j : S12x16x81920.Idx) := by
  have e : Shape.reshapeEquiv squeezes_S1x1x81920_S81920.numel_eq (ix1 j) = (ix3 (0 : Fin 1) (0 : Fin 1) j : S1x1x81920.Idx) :=
    Shape.reshapeEquiv_eq_of_rowMajor _ (by
      rw [Shape.rowMajor_val_one, Shape.rowMajor_val_three]; simp)
  show (Rect.unit (s := S12x16x81920) off S1x1x81920.size h).emb (Shape.reshapeEquiv squeezes_S1x1x81920_S81920.numel_eq (ix1 j)) = _
  rw [e]
  refine Shape.idx3_ext ?_ ?_ ?_
  · show off 0 + 1 * 0 = a.val; omega
  · show off 1 + 1 * 0 = b.val; omega
  · show off 2 + 1 * j.val = j.val; omega

theorem tM_emb (j : Fin 81920) : tM.view.emb (ix1 j) = (ix1 (⟨j.val, by omega⟩ : Fin 82048) : S82048.Idx) := by
  funext a
  match a with
  | ⟨0, _⟩ => apply Fin.ext; show 0 + 1 * j.val = j.val; omega

/-- The element of a two-row scratch under index `j` of its row `s`. -/
theorem rowEmb {off : Fin 2 → ℕ} (h : ∀ a, off a + S1x8192.size a ≤ S2x8192.size a) (j : Fin 8192) (s : Fin 2) (hs : off 0 = s.val) (h1 : off 1 = 0) :
    (Rect.unit (s := S2x8192) off S1x8192.size h).emb (Shape.reshapeEquiv squeezes_S1x8192_S8192.numel_eq (ix1 j)) = (ix2 s j : S2x8192.Idx) := by
  have e : Shape.reshapeEquiv squeezes_S1x8192_S8192.numel_eq (ix1 j) = (ix2 (0 : Fin 1) j : S1x8192.Idx) :=
    Shape.reshapeEquiv_eq_of_rowMajor _ (by
      rw [Shape.rowMajor_val_one, Shape.rowMajor_val_two]; simp)
  rw [e]
  funext a
  match a with
  | ⟨0, _⟩ => apply Fin.ext; show off 0 + 1 * 0 = s.val; omega
  | ⟨1, _⟩ => apply Fin.ext; show off 1 + 1 * j.val = j.val; omega

/-! ## The element sets of the pieces -/

theorem forall_fin3 {P : Fin 3 → Prop} : (∀ a, P a) ↔ P 0 ∧ P 1 ∧ P 2 :=
  ⟨fun h => ⟨h 0, h 1, h 2⟩, fun ⟨h0, h1, h2⟩ a => match a with | 0 => h0 | 1 => h1 | 2 => h2⟩
theorem forall_fin2 {P : Fin 2 → Prop} : (∀ a, P a) ↔ P 0 ∧ P 1 :=
  ⟨fun h => ⟨h 0, h 1⟩, fun ⟨h0, h1⟩ a => match a with | 0 => h0 | 1 => h1⟩
theorem forall_fin1 {P : Fin 1 → Prop} : (∀ a, P a) ↔ P 0 :=
  ⟨fun h => h 0, fun h0 a => match a with | 0 => h0⟩

theorem mem_nM {off : Fin 3 → ℕ} (h : ∀ a, off a + S1x1x8192.size a ≤ S12x27x81920.size a) (i : S12x27x81920.Idx) :
    i ∈ (nM off h).view.set ↔ (off 0 = (i 0).val ∧ off 1 = (i 1).val ∧ off 2 ≤ (i 2).val ∧ (i 2).val < off 2 + 8192) := by
  show i ∈ ((View.whole (main_v3_scv : Ref sig .scVector)).slice (Rect.unit (s := S12x27x81920) off S1x1x8192.size h) |>.reshape S8192 squeezes_S1x1x8192_S8192.numel_eq).set ↔ _
  rw [View.set_reshape, View.set_slice_whole, Rect.mem_set_unit]
  refine Iff.trans (forall_fin3 (P := fun a => off a ≤ (i a).val ∧ (i a).val < off a + S1x1x8192.size a)) ?_
  show ((off 0 ≤ (i 0).val ∧ (i 0).val < off 0 + 1) ∧ (off 1 ≤ (i 1).val ∧ (i 1).val < off 1 + 1) ∧ (off 2 ≤ (i 2).val ∧ (i 2).val < off 2 + 8192)) ↔ _
  omega

theorem mem_gM {off : Fin 3 → ℕ} (h : ∀ a, off a + S1x1x8192.size a ≤ S2x432x81920.size a) (i : S2x432x81920.Idx) :
    i ∈ (gM off h).view.set ↔ (off 0 = (i 0).val ∧ off 1 = (i 1).val ∧ off 2 ≤ (i 2).val ∧ (i 2).val < off 2 + 8192) := by
  show i ∈ ((View.whole (main_v4_scv : Ref sig .scVector)).slice (Rect.unit (s := S2x432x81920) off S1x1x8192.size h) |>.reshape S8192 squeezes_S1x1x8192_S8192.numel_eq).set ↔ _
  rw [View.set_reshape, View.set_slice_whole, Rect.mem_set_unit]
  refine Iff.trans (forall_fin3 (P := fun a => off a ≤ (i a).val ∧ (i a).val < off a + S1x1x8192.size a)) ?_
  show ((off 0 ≤ (i 0).val ∧ (i 0).val < off 0 + 1) ∧ (off 1 ≤ (i 1).val ∧ (i 1).val < off 1 + 1) ∧ (off 2 ≤ (i 2).val ∧ (i 2).val < off 2 + 8192)) ↔ _
  omega

/-- The part of the result vector subcore `L` fills in steps `n` up to `n'`. -/
def steps (L : grid0.Coords) (n n' : ℕ) : Finset S2x432x81920.Idx :=
  Finset.univ.filter fun i => (i 0).val = (L 0).val ∧ (i 1).val % 16 = (L 1).val
    ∧ n ≤ (i 1).val / 16 * 10 + (i 2).val / 8192 ∧ (i 1).val / 16 * 10 + (i 2).val / 8192 < n'

theorem mem_steps (L : grid0.Coords) (n n' : ℕ) (i : S2x432x81920.Idx) :
    i ∈ steps L n n' ↔ (i 0).val = (L 0).val ∧ (i 1).val % 16 = (L 1).val
    ∧ n ≤ (i 1).val / 16 * 10 + (i 2).val / 8192 ∧ (i 1).val / 16 * 10 + (i 2).val / 8192 < n' := by simp [steps]

theorem set_gM (L : grid0.Coords) {off : Fin 3 → ℕ} (h : ∀ a, off a + S1x1x8192.size a ≤ S2x432x81920.size a) (t : ℕ) (e : off = gOff L t) :
    (gM off h).view.set = steps L t (t + 1) := by
  subst e
  ext i
  rw [mem_gM, mem_steps]
  have h2 : (i 2).val < 81920 := (i 2).isLt
  have := lt1 L
  simp only [gOff, Matrix.cons_val_zero, Matrix.cons_val_one, Matrix.cons_val]
  omega

theorem steps_disjoint (L : grid0.Coords) (a b c : ℕ) : Disjoint (steps L a b) (steps L b c) := by
  rw [Finset.disjoint_left]; intro i h1 h2; rw [mem_steps] at h1 h2; omega
theorem steps_union (L : grid0.Coords) (a b c : ℕ) (h : a ≤ b) (h' : b ≤ c) : steps L a b ∪ steps L b c = steps L a c := by
  ext i; rw [Finset.mem_union, mem_steps, mem_steps, mem_steps]; omega
theorem steps_empty (L : grid0.Coords) (a : ℕ) : steps L a a = ∅ := by
  ext i; rw [mem_steps]; constructor
  · intro h; omega
  · intro h; exact absurd h (Finset.notMem_empty _)

/-- Row `s` of a two-row scratch. -/
def rowSet (s : Fin 2) : Finset S2x8192.Idx := Finset.univ.filter fun i => (i 0).val = s.val
theorem mem_rowSet (s : Fin 2) (i : S2x8192.Idx) : i ∈ rowSet s ↔ (i 0).val = s.val := by simp [rowSet]
theorem rowSet_compl : (Finset.univ : Finset S2x8192.Idx) \ rowSet 0 = rowSet 1 := by
  ext i; rw [Finset.mem_sdiff, mem_rowSet, mem_rowSet]
  have h : (i 0).val < 2 := (i 0).isLt
  simp only [Finset.mem_univ, true_and]
  show ¬ (i 0).val = 0 ↔ (i 0).val = 1
  omega

/-- The lower part of the table, and its zero pad. -/
theorem mem_tM (i : S82048.Idx) : i ∈ tM.view.set ↔ (i 0).val < 81920 := by
  show i ∈ ((View.whole (cc0_scratch0 : Ref sig .scVector)).slice (Rect.unit (s := S82048) ![0] S81920.size inb_S82048_S81920_0)).set ↔ _
  rw [View.set_slice_whole, Rect.mem_set_unit]
  refine Iff.trans (forall_fin1 (P := fun a => (![0] : Fin 1 → ℕ) a ≤ (i a).val ∧ (i a).val < (![0] : Fin 1 → ℕ) a + S81920.size a)) ?_
  have e : S81920.size 0 = 81920 := rfl
  simp only [Matrix.cons_val_zero, e, Nat.zero_add, Nat.zero_le, true_and]

theorem set_row {B : Memref sig .scVector .vmem S2x8192 .i32} {off : Fin 2 → ℕ} (h : ∀ a, off a + S1x8192.size a ≤ S2x8192.size a) (s : Fin 2) (hs : off 0 = s.val) (h1 : off 1 = 0) :
    (rowM B off h).view.set = (rowSet s).map B.view.emb := by
  show ((B.view.slice (Rect.unit (s := S2x8192) off S1x8192.size h)).reshape S8192 squeezes_S1x8192_S8192.numel_eq).set = _
  rw [View.set_reshape, View.set_slice]
  refine congrArg (Finset.map B.view.emb) (Finset.ext fun i => ?_)
  rw [Rect.mem_set_unit, mem_rowSet]
  have h1' : (i 1).val < 8192 := (i 1).isLt
  refine Iff.trans (forall_fin2 (P := fun a => off a ≤ (i a).val ∧ (i a).val < off a + S1x8192.size a)) ?_
  show ((off 0 ≤ (i 0).val ∧ (i 0).val < off 0 + 1) ∧ (off 1 ≤ (i 1).val ∧ (i 1).val < off 1 + 8192)) ↔ _
  omega

/-! ## The words the result ends with -/

section Value

variable {F : FTy → Type}
variable (x : Vec F S12x16x81920 .i32) (nb : Vec F S12x27x81920 .i32)

/-- The table's word at position `p`: `x`'s word of the row there, zero past the row's end. -/
def word (c : Fin 2) (w : Fin 16) (p : ℕ) : BitVec 32 := if h : p < 81920 then x (ix3 ⟨c.val, by omega⟩ w ⟨p, h⟩) else 0#32

/-- The result: at row `k · 16 + w` the word of row `w` of `x` at the neighbour's number, zero for no neighbour. -/
def gathered : Vec F S2x432x81920 .i32 := fun i =>
  word x (i 0) ⟨(i 1).val % 16, Nat.mod_lt _ (by decide)⟩
    (BitVec.toNat (w := 32) (nb (ix3 ⟨(i 0).val, lt_of_lt_of_le (i 0).isLt (by decide)⟩ ⟨(i 1).val / 16, Nat.div_lt_of_lt_mul (i 1).isLt⟩ (i 2))))

/-- Every neighbour number is negative or the number of a voxel. -/
def InScene : Prop := ∀ i, (nb i : BitVec 32).slt 0#32 = true ∨ BitVec.toNat (w := 32) (nb i) < 81920

/-- A neighbour number's position in the table: itself, or the zero pad's first for a negative one. -/
def pos (n : BitVec 32) : BitVec 32 := if n.slt 0#32 then 81920#32 else n

theorem word_pos (c : Fin 2) (w : Fin 16) (n : BitVec 32) : word x c w (pos n).toNat = word x c w n.toNat := by
  unfold pos
  split
  · rename_i h
    have : 2 ^ 31 ≤ n.toNat := by
      simp only [BitVec.slt_eq_decide, decide_eq_true_eq, BitVec.toInt_eq_toNat_cond, BitVec.toNat_ofNat] at h
      have := n.isLt
      omega
    unfold word
    rw [dif_neg (by decide), dif_neg (by omega)]
  · rfl

theorem pos_lt {n : BitVec 32} (h : n.slt 0#32 = true ∨ n.toNat < 81920) : (pos n).toNat < 82048 := by
  unfold pos
  split
  · decide
  · rcases h with h | h
    · contradiction
    · omega

end Value

end Cert.Proof.GatherTile

end
-- ==== Proof.GatherSlots.lean ====
/-
  The gather's transfers, one rule each: a chunk of neighbour numbers asked for into a row of the two-row index
  scratch and waited for, and a row of gathered words sent to its place in the result and waited for. Each slot's state
  between the two is stated once, as the transfer's flight with what it will hand over.
-/
module

public import proofs.«01_k».proof.Proof.GatherSpec
public import Idealize.ShloMosaic.Lib.Transfers

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters. -/
abbrev EC : UEmb Counters (MT nD τ sig (HIx 1) (Elt F) ℕ UU ℕ) := countersEmb (U := UU)

/-! ## The arrays and the scratch buffers -/

variable (m : (ℓ : Loc nD τ sig) → Buf (Elt F) ℓ)

abbrev xLoc (d : Dev nD) : Loc nD τ sig := (SparseCore.T d).loc main_v2
abbrev nLoc (d : Dev nD) : Loc nD τ sig := (SparseCore.T d).loc main_v3
abbrev gLoc (d : Dev nD) : Loc nD τ sig := (SparseCore.T d).loc main_v4

variable (d : Dev nD) (L : grid0.Coords)

abbrev cV : Fin τ.nSC := (L 0).castLE hcore0
abbrev jV : Fin τ.nSub := (L 1).castLE hsub0
/-- Vector subcore `L`'s thread. -/
abbrev tt : Thread nD τ := V d (cV L) (jV L)
abbrev tLoc : Loc nD τ sig := (tt d L).loc cc0_scratch0
abbrev iLoc : Loc nD τ sig := (tt d L).loc cc0_scratch1
abbrev oLoc : Loc nD τ sig := (tt d L).loc cc0_scratch2

/-- The words and the neighbour numbers the launch starts from, as arrays. -/
abbrev xA : Vec F S12x16x81920 .i32 := m (xLoc d)
abbrev nA : Vec F S12x27x81920 .i32 := m (nLoc d)

/-! ## A step's chunk -/

/-- Number `j` of step `t`'s chunk of neighbour numbers. -/
def nAt (t : ℕ) (j : Fin 8192) : BitVec 32 :=
  if h : t < 270 then nA m d (ix3 (⟨(L 0).val, by have := lt0 L; omega⟩ : Fin 12) (⟨t / 10, by omega⟩ : Fin 27) (⟨t % 10 * 8192 + j.val, by omega⟩ : Fin 81920))
  else 0#32

/-- The word gathered for it. -/
def wAt (t : ℕ) (j : Fin 8192) : BitVec 32 := word (xA m d) ⟨(L 0).val, lt0 L⟩ ⟨(L 1).val, lt1 L⟩ (nAt m d L t j).toNat

/-- The elements of step `t`'s chunk of neighbour numbers. -/
def nSet (t : ℕ) : Finset S12x27x81920.Idx :=
  Finset.univ.filter fun i => (i 0).val = (L 0).val ∧ (i 1).val = t / 10 ∧ (i 2).val / 8192 = t % 10

theorem set_nM {off : Fin 3 → ℕ} (h : ∀ a, off a + S1x1x8192.size a ≤ S12x27x81920.size a) (t : ℕ) (e : off = nOff L t) :
    (nM off h).view.set = nSet L t := by
  subst e
  ext i
  rw [mem_nM]
  simp only [nSet, Finset.mem_filter, Finset.mem_univ, true_and]
  have h2 : (i 2).val < 81920 := (i 2).isLt
  simp only [nOff, Matrix.cons_val_zero, Matrix.cons_val_one, Matrix.cons_val]
  omega

/-- Row `s` of the index scratch holds step `t`'s neighbour numbers. -/
def IdxHolds (s : Fin 2) (t : ℕ) (f : Buf (Elt F) (iLoc d L)) : Prop := ∀ j : Fin 8192, f (ix2 s j : S2x8192.Idx) = nAt m d L t j
/-- Row `s` of the word scratch holds step `t`'s words. -/
def OutHolds (s : Fin 2) (t : ℕ) (f : Buf (Elt F) (oLoc d L)) : Prop := ∀ j : Fin 8192, f (ix2 s j : S2x8192.Idx) = wAt m d L t j

theorem idx1_eq (j : S8192.Idx) : j = ix1 (⟨(j 0).val, (j 0).isLt⟩ : Fin 8192) := by
  funext a
  match a with
  | ⟨0, _⟩ => rfl
theorem row_eq (s : Fin 2) (i : S2x8192.Idx) (h : i ∈ rowSet s) : i = ix2 s (⟨(i 1).val, (i 1).isLt⟩ : Fin 8192) := by
  rw [mem_rowSet] at h
  funext a
  match a with
  | ⟨0, _⟩ => exact Fin.ext h
  | ⟨1, _⟩ => rfl

/-- What the fetch of step `t`'s chunk leaves in the index scratch. -/
theorem fetch_holds {off : Fin 3 → ℕ} (h : ∀ a, off a + S1x1x8192.size a ≤ S12x27x81920.size a)
    {ro : Fin 2 → ℕ} (hr : ∀ a, ro a + S1x8192.size a ≤ S2x8192.size a) (s : Fin 2) (hs : ro 0 = s.val) (h1 : ro 1 = 0)
    (t : ℕ) (ht : t < 270) (e : off = nOff L t) (fd : Buf (Elt F) (iLoc d L)) :
    IdxHolds m d L s t ((rowM sI ro hr).view.write (Elt F) fd ((ReadAs.same : ReadAs (Elt F) S8192 .i32 S8192 .i32).apply ((nM off h).view.read (Elt F) (m (nLoc d)))) Finset.univ) := by
  subst e
  intro j
  have er : (rowM sI ro hr).view.emb (ix1 j) = (ix2 s j : S2x8192.Idx) := rowEmb hr j s hs h1
  rw [← er, View.write_emb_of_mem _ _ (Finset.mem_univ _)]
  have en : (nM (nOff L t) h).view.emb (ix1 j) = (ix3 (⟨(L 0).val, by have := lt0 L; omega⟩ : Fin 12) (⟨t / 10, by omega⟩ : Fin 27) (⟨t % 10 * 8192 + j.val, by omega⟩ : Fin 81920) : S12x27x81920.Idx) :=
    nM_emb h j _ _ _ rfl rfl rfl
  unfold nAt
  rw [dif_pos ht, ← en]
  rfl

/-- What sending step `t`'s words leaves in the result. -/
theorem send_holds {off : Fin 3 → ℕ} (h : ∀ a, off a + S1x1x8192.size a ≤ S2x432x81920.size a)
    {ro : Fin 2 → ℕ} (hr : ∀ a, ro a + S1x8192.size a ≤ S2x8192.size a) (s : Fin 2) (hs : ro 0 = s.val) (h1 : ro 1 = 0)
    (t : ℕ) (ht : t < 270) (e : off = gOff L t) (fs : Buf (Elt F) (oLoc d L)) (hf : OutHolds m d L s t fs) (fd : Buf (Elt F) (gLoc d)) :
    ∀ i ∈ steps L t (t + 1), ((gM off h).view.write (Elt F) fd ((ReadAs.same : ReadAs (Elt F) S8192 .i32 S8192 .i32).apply ((rowM sO ro hr).view.read (Elt F) fs)) Finset.univ) i
      = gathered (xA m d) (nA m d) i := by
  subst e
  intro i hi
  rw [← set_gM L h t rfl] at hi
  obtain ⟨j', -, rfl⟩ := Finset.mem_map.mp hi
  obtain ⟨j, rfl⟩ : ∃ j : Fin 8192, j' = ix1 j := ⟨_, idx1_eq j'⟩
  rw [View.write_emb_of_mem _ _ (Finset.mem_univ _)]
  have er : (rowM sO ro hr).view.emb (ix1 j) = (ix2 s j : S2x8192.Idx) := rowEmb hr j s hs h1
  have hL := lt1 L
  have eg : (gM (gOff L t) h).view.emb (ix1 j) = (ix3 (⟨(L 0).val, lt0 L⟩ : Fin 2) (⟨t / 10 * 16 + (L 1).val, by omega⟩ : Fin 432) (⟨t % 10 * 8192 + j.val, by omega⟩ : Fin 81920) : S2x432x81920.Idx) :=
    gM_emb h j _ _ _ rfl rfl rfl
  have hv := hf j
  rw [← er] at hv
  refine Eq.trans (show _ = fs ((rowM sO ro hr).view.emb (ix1 j)) from rfl) (hv.trans ?_)
  rw [eg]
  unfold wAt nAt gathered
  rw [dif_pos ht]
  have e1 : (t / 10 * 16 + (L 1).val) / 16 = t / 10 := by omega
  have e2 : (t / 10 * 16 + (L 1).val) % 16 = (L 1).val := by omega
  have k1 : (⟨(t / 10 * 16 + (L 1).val) / 16, by omega⟩ : Fin 27) = ⟨t / 10, by omega⟩ := Fin.ext e1
  have k2 : (⟨(t / 10 * 16 + (L 1).val) % 16, by omega⟩ : Fin 16) = ⟨(L 1).val, hL⟩ := Fin.ext e2
  show word (xA m d) _ _ (BitVec.toNat (w := 32) (nA m d (ix3 _ _ _))) = word (xA m d) ⟨(L 0).val, _⟩ ⟨(t / 10 * 16 + (L 1).val) % 16, _⟩
    (BitVec.toNat (w := 32) (nA m d (ix3 ⟨(L 0).val, _⟩ ⟨(t / 10 * 16 + (L 1).val) / 16, _⟩ ⟨t % 10 * 8192 + j.val, _⟩)))
  rw [k1, k2]

/-! ## A slot's states -/

variable [BitOps F]

/-- Slot `s` of the index scratch between a wait and the next fetch: its row at some contents, its share of the
    neighbour numbers, its semaphore at zero. -/
def IdxIdle (q : PosShare TreeShare) (sem : DmaSem sig) (s : Fin 2) : sProp 𝕄 :=
  iprop((∃ f, iLoc d L ↦[rowSet s]{fullShare} f) ∗ (nLoc d ↦{q} m (nLoc d)) ∗ semVal (tt d L, SemLoc.dma sem) 0)
/-- The same just after the wait of step `t`: the row holds the step's numbers. -/
def IdxGot (q : PosShare TreeShare) (sem : DmaSem sig) (s : Fin 2) (t : ℕ) : sProp 𝕄 :=
  iprop((∃ f, ⌜IdxHolds m d L s t f⌝ ∗ iLoc d L ↦[rowSet s]{fullShare} f) ∗ (nLoc d ↦{q} m (nLoc d)) ∗ semVal (tt d L, SemLoc.dma sem) 0)
/-- What step `t`'s fetch hands over. -/
def idxD (q : PosShare TreeShare) (s : Fin 2) (t : ℕ) : sProp 𝕄 :=
  iprop((∃ f, ⌜IdxHolds m d L s t f⌝ ∗ iLoc d L ↦[rowSet s]{fullShare} f) ∗ nLoc d ↦[nSet L t]{q} m (nLoc d))
/-- The bits a row's transfer moves. -/
def NR : ℕ := (rowM sI ![0, 0] inb_S2x8192_S1x8192_0_0).view.dmaCredit
/-- Step `t`'s fetch in flight. -/
def IdxPend (q : PosShare TreeShare) (sem : DmaSem sig) (s : Fin 2) (t : ℕ) : sProp 𝕄 :=
  iprop(Flight EC (tt d L) (SemLoc.dma sem) none NR (idxD m d L q s t) ∗ nLoc d ↦[Finset.univ \ nSet L t]{q} m (nLoc d))

variable {α : Type} {Q : α → sProp (MT nD τ sig (HIx 1) (Elt F) ℕ UU ℕ)}

theorem start_idx (q : PosShare TreeShare) (sem : DmaSem sig) (s : Fin 2) (t : ℕ) (ht : t < 270)
    {off : Fin 3 → ℕ} (h : ∀ a, off a + S1x1x8192.size a ≤ S12x27x81920.size a) (e : off = nOff L t)
    {ro : Fin 2 → ℕ} (hr : ∀ a, ro a + S1x8192.size a ≤ S2x8192.size a) (hs : ro 0 = s.val) (h1 : ro 1 = 0)
    {hsrc : (nM off h).view.WordExact} {hdst : (rowM sI ro hr).view.WordExact}
    {hsem : DmaTarget.Typed (nD := nD) Space.hbm (SemLoc.dma sem) (.here (p := (tt d L).2) (rowM sI ro hr))}
    {k : PUnit → Prog (TpuEff nD τ sig (Elt F) Λ₀ (tt d L).2) α} :
    IdxIdle m d L q sem s
      ⊢ iprop((IdxPend m d L q sem s t -∗ wp frame (wpE (defs₀ (F := F)) 𝒱₀ (tt d L) none) Set.univ (k ⟨⟩) Q)
          -∗ wp frame (wpE (defs₀ (F := F)) 𝒱₀ (tt d L) none) Set.univ (.op (.enqueueDma (nM off h) (.here (rowM sI ro hr)) (SemLoc.dma sem) hsrc hdst hsem) k) Q) := by
  unfold IdxIdle
  iintro ⟨⟨%fd, Hrow⟩, Hn, Hsem⟩ Hk
  ihave Hn' := ((pointsTo_split_subset (ℓ := nLoc d) (q := q) (f := m (nLoc d)) (Finset.subset_univ (nSet L t))).1) $$ Hn
  icases Hn' with ⟨Hn, Hrest⟩
  have en : ((nM off h).view.loc (tt d L) ↦[(nM off h).view.set]{q} m (nLoc d) : sProp 𝕄) = nLoc d ↦[nSet L t]{q} m (nLoc d) := by
    rw [set_nM L h t e]
  have er : (rowM sI ro hr).view.set = rowSet s := by
    rw [set_row hr s hs h1]; exact Finset.map_refl
  ihave Hn' := (Entails.of_eq en.symm) $$ Hn
  iapply (Transfers.wp_dmaLocal EC 𝒱₀ (tt d L) none (src := nM off h) (dst := rowM sI ro hr) (Sd := rowSet s) (fd := fd) none NR rfl
    (View.amount_pos _ (SemLoc.dma sem) (by decide)) er.subset) $$ [Hn' Hrow Hsem]
  · isplitl [Hn']; · iexact Hn'
    isplitl [Hrow]; · iexact Hrow
    iexact Hsem
  iintro HF
  iapply Hk
  unfold IdxPend
  isplitr [Hrest]
  · iapply (Transfers.Flight_mono EC ?_) $$ HF
    unfold idxD
    rw [en]
    iintro ⟨Hr, Hn⟩
    isplitl [Hr]
    · iexists _
      isplitr
      · ipureintro; exact fetch_holds m d L h hr s hs h1 t ht e fd
      iexact Hr
    iexact Hn
  iexact Hrest

/-- What the waits have added to the thread's record: nothing but waits of the schedule-free index. -/
def Owes (O : CellTallies nD τ sig (HIx 1)) (W : Waits sig (HIx 1)) : sProp 𝕄 :=
  iprop(∃ W', ⌜∀ p ∈ W', p ∈ W ∨ p.2 = none⌝ ∗ owes (tt d L) O W')

theorem wait_idx (q : PosShare TreeShare) (sem : DmaSem sig) (s : Fin 2) (t : ℕ)
    (O : CellTallies nD τ sig (HIx 1)) (W : Waits sig (HIx 1)) {off : Fin 3 → ℕ} (h : ∀ a, off a + S1x1x8192.size a ≤ S12x27x81920.size a)
    {ro : Fin 2 → ℕ} (hr : ∀ a, ro a + S1x8192.size a ≤ S2x8192.size a)
    {hsrc : (nM off h).view.WordExact} {hdst : (rowM sI ro hr).view.WordExact}
    {k : PUnit → Prog (TpuEff nD τ sig (Elt F) Λ₀ (tt d L).2) α} :
    iprop(IdxPend m d L q sem s t ∗ Owes d L O W ∗ MayWaits (tt d L) none O)
      ⊢ iprop((iprop(IdxGot m d L q sem s t ∗ Owes d L O W) -∗ wp frame (wpE (defs₀ (F := F)) 𝒱₀ (tt d L) none) Set.univ (k ⟨⟩) Q)
          -∗ wp frame (wpE (defs₀ (F := F)) 𝒱₀ (tt d L) none) Set.univ (.op (.waitDma2 sem (nM off h) (rowM sI ro hr) hsrc hdst) k) Q) := by
  unfold IdxPend Owes
  iintro ⟨⟨HF, Hrest⟩, ⟨%W', %hW', HO⟩, HM⟩ Hk
  ihave HM' := (MayWaits.elim (SemLoc.dma sem)) $$ HM
  iapply (Transfers.wp_waitLocalO EC 𝒱₀ (tt d L) none (srcw := nM off h) (dstw := rowM sI ro hr) none (N := NR) rfl) $$ [HF HO HM']
  · isplitl [HF]; · iexact HF
    isplitl [HO]; · iexact HO
    iexact HM'
  unfold idxD
  iintro ⟨⟨Hrow, Hn⟩, Hsem, HO⟩
  iapply Hk
  unfold IdxGot
  isplitr [HO]
  · isplitl [Hrow]; · iexact Hrow
    isplitr [Hsem]
    · iapply ((pointsTo_split_subset (ℓ := nLoc d) (q := q) (f := m (nLoc d)) (Finset.subset_univ (nSet L t))).2)
      isplitl [Hn]; · iexact Hn
      iexact Hrest
    iexact Hsem
  iexists _
  isplitr
  rotate_left
  · iexact HO
  · ipureintro
    intro p hp
    rcases Finset.mem_insert.mp hp with rfl | hp
    · exact Or.inr rfl
    · exact hW' p hp

/-- Slot `s` of the word scratch with no transfer under way. -/
def OutIdle (sem : DmaSem sig) (s : Fin 2) : sProp 𝕄 :=
  iprop((∃ f, oLoc d L ↦[rowSet s]{fullShare} f) ∗ semVal (tt d L, SemLoc.dma sem) 0)
/-- The same with step `t`'s words in the row. -/
def OutRdy (sem : DmaSem sig) (s : Fin 2) (t : ℕ) : sProp 𝕄 :=
  iprop((∃ f, ⌜OutHolds m d L s t f⌝ ∗ oLoc d L ↦[rowSet s]{fullShare} f) ∗ semVal (tt d L, SemLoc.dma sem) 0)
/-- The result's words at the end. -/
abbrev gEnd : Buf (Elt F) (gLoc d) := gathered (xA m d) (nA m d)
/-- What sending step `t`'s words hands over. -/
def outD (s : Fin 2) (t : ℕ) : sProp 𝕄 :=
  iprop((∃ f, oLoc d L ↦[rowSet s]{fullShare} f) ∗ gLoc d ↦[steps L t (t + 1)]{fullShare} gEnd m d)
/-- The bits it moves, counted at the result. -/
def NG : ℕ := (gM ![0, 0, 0] (by decide)).view.dmaCredit
/-- Step `t`'s words under way. -/
def OutPend (sem : DmaSem sig) (s : Fin 2) (t : ℕ) : sProp 𝕄 := Flight EC (tt d L) (SemLoc.dma sem) none NG (outD m d L s t)

theorem start_out (sem : DmaSem sig) (s : Fin 2) (t : ℕ) (ht : t < 270)
    {off : Fin 3 → ℕ} (h : ∀ a, off a + S1x1x8192.size a ≤ S2x432x81920.size a) (e : off = gOff L t)
    {ro : Fin 2 → ℕ} (hr : ∀ a, ro a + S1x8192.size a ≤ S2x8192.size a) (hs : ro 0 = s.val) (h1 : ro 1 = 0)
    {hsrc : (rowM sO ro hr).view.WordExact} {hdst : (gM off h).view.WordExact}
    {hsem : DmaTarget.Typed (nD := nD) Space.vmem (SemLoc.dma sem) (.here (p := (tt d L).2) (gM off h))}
    {k : PUnit → Prog (TpuEff nD τ sig (Elt F) Λ₀ (tt d L).2) α} :
    iprop(OutRdy m d L sem s t ∗ gLoc d ↦[steps L t (t + 1)]{fullShare} m (gLoc d))
      ⊢ iprop((OutPend m d L sem s t -∗ wp frame (wpE (defs₀ (F := F)) 𝒱₀ (tt d L) none) Set.univ (k ⟨⟩) Q)
          -∗ wp frame (wpE (defs₀ (F := F)) 𝒱₀ (tt d L) none) Set.univ (.op (.enqueueDma (rowM sO ro hr) (.here (gM off h)) (SemLoc.dma sem) hsrc hdst hsem) k) Q) := by
  unfold OutRdy
  iintro ⟨⟨⟨%f, %hf, Hrow⟩, Hsem⟩, Hg⟩ Hk
  have es : (rowM sO ro hr).view.set = rowSet s := by
    rw [set_row hr s hs h1]; exact Finset.map_refl
  have en : ((rowM sO ro hr).view.loc (tt d L) ↦[(rowM sO ro hr).view.set]{fullShare} f : sProp 𝕄) = oLoc d L ↦[rowSet s]{fullShare} f := by
    rw [es]
  have er : (gM off h).view.set = steps L t (t + 1) := set_gM L h t e
  ihave Hrow' := (Entails.of_eq en.symm) $$ Hrow
  iapply (Transfers.wp_dmaLocal EC 𝒱₀ (tt d L) none (src := rowM sO ro hr) (dst := gM off h) (Sd := steps L t (t + 1)) (fd := m (gLoc d)) none NG rfl
    (View.amount_pos _ (SemLoc.dma sem) (by decide)) er.subset) $$ [Hrow' Hg Hsem]
  · isplitl [Hrow']; · iexact Hrow'
    isplitl [Hg]; · iexact Hg
    iexact Hsem
  iintro HF
  iapply Hk
  unfold OutPend
  iapply (Transfers.Flight_mono EC ?_) $$ HF
  unfold outD
  rw [en]
  iintro ⟨Hg, Hr⟩
  isplitl [Hr]
  · iexists _; iexact Hr
  iapply (Entails.of_eq (pointsTo_congr (send_holds m d L h hr s hs h1 t ht e f hf (m (gLoc d))))) $$ Hg

theorem wait_out (sem : DmaSem sig) (s : Fin 2) (t : ℕ)
    (O : CellTallies nD τ sig (HIx 1)) (W : Waits sig (HIx 1)) {off : Fin 3 → ℕ} (h : ∀ a, off a + S1x1x8192.size a ≤ S2x432x81920.size a)
    {ro : Fin 2 → ℕ} (hr : ∀ a, ro a + S1x8192.size a ≤ S2x8192.size a)
    {hsrc : (rowM sO ro hr).view.WordExact} {hdst : (gM off h).view.WordExact}
    {k : PUnit → Prog (TpuEff nD τ sig (Elt F) Λ₀ (tt d L).2) α} :
    iprop(OutPend m d L sem s t ∗ Owes d L O W ∗ MayWaits (tt d L) none O)
      ⊢ iprop((iprop(OutIdle d L sem s ∗ (gLoc d ↦[steps L t (t + 1)]{fullShare} gEnd m d) ∗ Owes d L O W)
            -∗ wp frame (wpE (defs₀ (F := F)) 𝒱₀ (tt d L) none) Set.univ (k ⟨⟩) Q)
          -∗ wp frame (wpE (defs₀ (F := F)) 𝒱₀ (tt d L) none) Set.univ (.op (.waitDma2 sem (rowM sO ro hr) (gM off h) hsrc hdst) k) Q) := by
  unfold OutPend Owes
  iintro ⟨HF, ⟨%W', %hW', HO⟩, HM⟩ Hk
  ihave HM' := (MayWaits.elim (SemLoc.dma sem)) $$ HM
  iapply (Transfers.wp_waitLocalO EC 𝒱₀ (tt d L) none (srcw := rowM sO ro hr) (dstw := gM off h) none (N := NG) rfl) $$ [HF HO HM']
  · isplitl [HF]; · iexact HF
    isplitl [HO]; · iexact HO
    iexact HM'
  unfold outD
  iintro ⟨⟨Hrow, Hg⟩, Hsem, HO⟩
  iapply Hk
  unfold OutIdle
  isplitl [Hrow Hsem]
  · isplitl [Hrow]; · iexact Hrow
    iexact Hsem
  isplitl [Hg]; · iexact Hg
  iexists _
  isplitr
  rotate_left
  · iexact HO
  · ipureintro
    intro p hp
    rcases Finset.mem_insert.mp hp with rfl | hp
    · exact Or.inr rfl
    · exact hW' p hp

end Cert.Proof.GatherTile

end
-- ==== Proof.GatherRows.lean ====
/-
  The gather's inner loop: sixteen neighbour numbers of a row at a time, their words looked up in the table and stored
  in the word row.
-/
module

public import proofs.«01_k».proof.Proof.GatherSlots
public import Idealize.ShloMosaic.Lib.Transfers

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## Sixteen elements of a row -/

/-- Element `l` of the sixteen at `16 · j` of row `s`. -/
theorem lane_emb {ro : Fin 2 → ℕ} (h : ∀ a, ro a + S1x16.size a ≤ S2x8192.size a) (s : Fin 2) (j : ℕ) (e : ro = ![s.val, 16 * j]) (l : Fin 16) (hj : j < 512) :
    (Rect.unit (s := S2x8192) ro S1x16.size h).emb (ix2 (0 : Fin 1) l) = (ix2 s (⟨16 * j + l.val, by omega⟩ : Fin 8192) : S2x8192.Idx) := by
  subst e
  funext a
  match a with
  | ⟨0, _⟩ => apply Fin.ext; show s.val + 1 * 0 = s.val; omega
  | ⟨1, _⟩ => apply Fin.ext; show 16 * j + 1 * l.val = 16 * j + l.val; omega

theorem lane_eq (i : S1x16.Idx) : i = ix2 (0 : Fin 1) (⟨(i 1).val, (i 1).isLt⟩ : Fin 16) := by
  funext a
  match a with
  | ⟨0, _⟩ => exact Fin.ext (by have : (i 0).val < 1 := (i 0).isLt; show (i 0).val = 0; omega)
  | ⟨1, _⟩ => rfl

theorem lane_mem {ro : Fin 2 → ℕ} (h : ∀ a, ro a + S1x16.size a ≤ S2x8192.size a) (s : Fin 2) (j : ℕ) (e : ro = ![s.val, 16 * j]) (hj : j < 512) (i : S1x16.Idx) :
    (Rect.unit (s := S2x8192) ro S1x16.size h).emb i ∈ rowSet s := by
  rw [lane_eq i, lane_emb h s j e _ hj, mem_rowSet]; rfl

theorem cast16 {A : Type} (v : S16.Idx → A) (l : Fin 16) :
    v (Shape.reshapeEquiv shapeCasts_S16_S1x16 (ix2 (0 : Fin 1) l)) = v (ix1 l) :=
  congrArg v (Shape.reshapeEquiv_eq_of_rowMajor _ (by
      rw [Shape.rowMajor_val_one, Shape.rowMajor_val_two]; simp))
theorem cast1x16 {A : Type} (v : S1x16.Idx → A) (l : Fin 16) :
    v (Shape.reshapeEquiv shapeCasts_S1x16_S16 (ix1 l)) = v (ix2 (0 : Fin 1) l) :=
  congrArg v (Shape.reshapeEquiv_eq_of_rowMajor _ (by
      rw [Shape.rowMajor_val_one, Shape.rowMajor_val_two]; simp))

/-- The sixteen positions: each number's, the zero pad's for a negative one. -/
theorem pay1_apply (v : Vec F S1x16 .i32) (l : Fin 16) : k0_pay1 v (ix1 l) = pos (v (ix2 (0 : Fin 1) l)) := by
  have h : k0_pay1 v (ix1 l) = pos (v (Shape.reshapeEquiv shapeCasts_S1x16_S16 (ix1 l))) := by
    show (if (BitVec.ofBool _ : BitVec 1) = 1#1 then _ else _) = _
    unfold pos
    show (if (BitVec.ofBool (BitVec.slt (v (Shape.reshapeEquiv shapeCasts_S1x16_S16 (ix1 l))) 0#32) : BitVec 1) = 1#1 then (81920#32 : BitVec 32) else v (Shape.reshapeEquiv shapeCasts_S1x16_S16 (ix1 l))) = _
    cases BitVec.slt (v (Shape.reshapeEquiv shapeCasts_S1x16_S16 (ix1 l))) 0#32 <;> rfl
  rw [h]; exact congrArg pos (cast1x16 v l)

/-! ## The table, and a row part-way -/

/-- The table holds `x`'s row, with zeros past its end. -/
def TabHolds (f : Buf (Elt F) (tLoc d L)) : Prop :=
  ∀ p : Fin 82048, f (ix1 p : S82048.Idx) = word (xA m d) ⟨(L 0).val, lt0 L⟩ ⟨(L 1).val, lt1 L⟩ p.val

/-- Every number of a chunk is negative or a voxel's. -/
theorem nAt_ok (hp : InScene (nA m d)) (t : ℕ) (j : Fin 8192) : (nAt m d L t j).slt 0#32 = true ∨ (nAt m d L t j).toNat < 81920 := by
  unfold nAt
  split
  · exact hp _
  · exact Or.inr (by decide)

/-- Row `s` part-way: the chunk, the table, the first `16 · n` words stored. -/
def RowPart (s : Fin 2) (t : ℕ) (tb : Buf (Elt F) (tLoc d L)) (fi : Buf (Elt F) (iLoc d L)) (n : ℕ) : sProp 𝕄 :=
  iprop((iLoc d L ↦[rowSet s]{fullShare} fi) ∗ (tLoc d L ↦{fullShare} tb)
    ∗ ∃ g, ⌜∀ j : Fin 8192, j.val < 16 * n → g (ix2 s j : S2x8192.Idx) = wAt m d L t j⌝ ∗ oLoc d L ↦[rowSet s]{fullShare} g)

variable [BitOps F]

/-- The loaded numbers. -/
theorem lane_read (s : Fin 2) (t : ℕ) {fi : Buf (Elt F) (iLoc d L)} (hi : IdxHolds m d L s t fi) {ro : Fin 2 → ℕ}
    (h : ∀ a, ro a + S1x16.size a ≤ S2x8192.size a) (j : ℕ) (e : ro = ![s.val, 16 * j]) (l : Fin 16) (hj : j < 512) :
    (sI.access (Rect.unit (s := S2x8192) ro S1x16.size h)).read (Elt F) fi (ix2 (0 : Fin 1) l) = nAt m d L t ⟨16 * j + l.val, by omega⟩ := by
  refine Eq.trans ?_ (hi ⟨16 * j + l.val, by omega⟩)
  rw [← lane_emb h s j e l hj]
  rfl

theorem lane_chk (hp : InScene (nA m d)) (s : Fin 2) (t : ℕ) {fi : Buf (Elt F) (iLoc d L)} (hi : IdxHolds m d L s t fi) {ro : Fin 2 → ℕ}
    (h : ∀ a, ro a + S1x16.size a ≤ S2x8192.size a) (j : ℕ) (e : ro = ![s.val, 16 * j]) (hj : j < 512) :
    k0_chk1 (k0_pay1 ((sI.access (Rect.unit (s := S2x8192) ro S1x16.size h)).read (Elt F) fi)) := by
  intro a x
  obtain rfl : a = 0 := Subsingleton.elim _ _
  obtain ⟨l, rfl⟩ : ∃ l : Fin 16, x = ix1 l := ⟨⟨(x 0).val, (x 0).isLt⟩, by
    funext a
    match a with
    | ⟨0, _⟩ => rfl⟩
  show (k0_pay1 ((sI.access (Rect.unit (s := S2x8192) ro S1x16.size h)).read (Elt F) fi) (ix1 l)).toNat < 82048
  rw [pay1_apply]
  exact pos_lt (by rw [lane_read m d L s t hi h j e l hj]; exact nAt_ok m d L hp t _)

/-- What a lookup reads of the table. -/
theorem table_at (tb : Buf (Elt F) (tLoc d L)) (v : IVec S16 32) (h : ∀ a x, ((![v] : Fin 1 → IVec S16 32) a x).toNat < S82048.size a) (l : Fin 16) :
    loadIdx ((sT.access (.whole S82048)).read (Elt F) tb) ![v] h (ix1 l) = tb (ix1 (⟨(v (ix1 l)).toNat, h 0 (ix1 l)⟩ : Fin 82048) : S82048.Idx) := by
  show tb ((Rect.whole S82048).emb (idxAt ![v] h (ix1 l))) = _
  refine congrArg tb ?_
  funext a
  match a with
  | ⟨0, _⟩ => apply Fin.ext; show 0 + 1 * (v (ix1 l)).toNat = (v (ix1 l)).toNat; omega

variable {α : Type} {Q : α → sProp (MT nD τ sig (HIx 1) (Elt F) ℕ UU ℕ)}

/-- Sixteen words: the numbers loaded, checked, looked up and stored. -/
theorem lane_step (hp : InScene (nA m d)) (s : Fin 2) (t : ℕ) (tb : Buf (Elt F) (tLoc d L)) (ht : TabHolds m d L tb)
    (fi : Buf (Elt F) (iLoc d L)) (hi : IdxHolds m d L s t fi) (j : ℕ) (hj : j < 512)
    {ro ro' : Fin 2 → ℕ} (h : ∀ a, ro a + S1x16.size a ≤ S2x8192.size a) (h' : ∀ a, ro' a + S1x16.size a ≤ S2x8192.size a)
    (e : ro = ![s.val, 16 * j]) (e' : ro' = ![s.val, 16 * j])
    (hl : sI.view.LoadsAt (Rect.unit (s := S2x8192) ro S1x16.size h).toLoadRect)
    (hl' : sO.view.LoadsAt (Rect.unit (s := S2x8192) ro' S1x16.size h').toLoadRect)
    (hst : (sO.access (Rect.unit (s := S2x8192) ro' S1x16.size h')).Stores Finset.univ)
    (hm : (Finset.univ : Finset S1x16.Idx) = Finset.univ ∨ ∀ a, (Rect.unit (s := S2x8192) ro' S1x16.size h').stride a = 1) :
    RowPart m d L s t tb fi j
      ⊢ wp frame (wpE (defs₀ (F := F)) 𝒱₀ (tt d L) none) Set.univ
          ((.op (.load sI (Rect.unit (s := S2x8192) ro S1x16.size h).toLoadRect hl) fun ld =>
            .op (.assume (k0_chk1 (k0_pay1 ld)) (k0_chk1.dec (k0_pay1 ld))) fun hw =>
            SparseCore.vectorLoadIdx sT ![k0_pay1 ld] (k0_idx1_inb (k0_pay1 ld) hw.down) (View.loads_vmem h_S82048) >>= fun v =>
            .op (.load sO (Rect.unit (s := S2x8192) ro' S1x16.size h').toLoadRect hl') fun _ =>
            .op (.store sO (Rect.unit (s := S2x8192) ro' S1x16.size h') (shapeCast S1x16 v shapeCasts_S16_S1x16) Finset.univ hst hm) fun _ =>
            .ret ()) : Prog (TpuEff nD τ sig (Elt F) Λ₀ (tt d L).2) Unit)
          fun _ => RowPart m d L s t tb fi (j + 1) := by
  unfold RowPart
  iintro ⟨Hi, Ht, %g, %hg, Ho⟩
  iapply (wp_load_rect 𝒱₀ (tt d L) none Set.univ (m := sI) (r := Rect.unit (s := S2x8192) ro S1x16.size h) (S := rowSet s) (q := fullShare) (f := fi) (by
    intro i hi
    obtain ⟨x, -, rfl⟩ := Finset.mem_map.mp hi
    exact lane_mem h s j e hj x)) $$ Hi
  iintro Hi
  rw [wp_assume_of _ _ _ _ (lane_chk m d L hp s t hi h j e hj)]
  iapply (SparseCore.wp_vectorLoadIdx 𝒱₀ (tt d L) none Set.univ (base := sT) (S := Finset.univ) (q := fullShare) (f := tb) (Finset.subset_univ _)) $$ Ht
  iintro Ht
  have hsub : (sO.access (Rect.unit (s := S2x8192) ro' S1x16.size h')).set ⊆ rowSet s := by
    intro i hi
    obtain ⟨x, -, rfl⟩ := Finset.mem_map.mp hi
    exact lane_mem h' s j e' hj x
  iapply (wp_load_rect 𝒱₀ (tt d L) none Set.univ (m := sO) (r := Rect.unit (s := S2x8192) ro' S1x16.size h') (S := rowSet s) (q := fullShare) (f := g) hsub) $$ Ho
  iintro Ho
  iapply (wp_store 𝒱₀ (tt d L) none Set.univ (m := sO) (r := Rect.unit (s := S2x8192) ro' S1x16.size h') (Mk := Finset.univ) (S := rowSet s) (f := g) hsub) $$ Ho
  iintro Ho
  rw [wp_ret]; imodintro
  isplitl [Hi]; · iexact Hi
  isplitl [Ht]; · iexact Ht
  iexists _
  isplitr
  rotate_left
  · iexact Ho
  · ipureintro
    intro k hk
    by_cases hk' : k.val < 16 * j
    · rw [View.write_of_not_mem]
      · exact hg k hk'
      · intro hi
        obtain ⟨x, -, hx⟩ := Finset.mem_map.mp hi
        have hx' : (Rect.unit (s := S2x8192) ro' S1x16.size h').emb x = (ix2 s k : S2x8192.Idx) := hx
        rw [lane_eq x, lane_emb h' s j e' _ hj] at hx'
        have := congrArg (fun i : S2x8192.Idx => (i 1).val) hx'
        have this : 16 * j + (x 1).val = k.val := this
        omega
    · obtain ⟨l, hlk⟩ : ∃ l : Fin 16, k.val = 16 * j + l.val := ⟨⟨k.val - 16 * j, by omega⟩, by show k.val = 16 * j + (k.val - 16 * j); omega⟩
      obtain rfl : k = ⟨16 * j + l.val, by have := l.isLt; clear hlk hk hk' hg; omega⟩ := Fin.ext hlk
      have ee : (sO.access (Rect.unit (s := S2x8192) ro' S1x16.size h')).emb (ix2 (0 : Fin 1) l) = (ix2 s (⟨16 * j + l.val, by omega⟩ : Fin 8192) : S2x8192.Idx) :=
        lane_emb h' s j e' l hj
      rw [← ee, View.write_emb_of_mem _ _ (Finset.mem_univ _)]
      refine Eq.trans (cast_eq _ _) ((cast16 _ l).trans ?_)
      unfold wAt
      rw [← word_pos, ← lane_read m d L s t hi h j e l hj, ← pay1_apply]
      exact (table_at d L tb _ _ l).trans <| ht ⟨(k0_pay1 ((sI.access (Rect.unit (s := S2x8192) ro S1x16.size h)).read (Elt F) fi) (ix1 l)).toNat, lane_chk m d L hp s t hi h j e hj 0 (ix1 l)⟩

/-- A row's chunk before its words are looked up. -/
def RowStart (s : Fin 2) (t : ℕ) : sProp 𝕄 :=
  iprop((∃ f, ⌜IdxHolds m d L s t f⌝ ∗ iLoc d L ↦[rowSet s]{fullShare} f) ∗ (∃ tb, ⌜TabHolds m d L tb⌝ ∗ tLoc d L ↦{fullShare} tb)
    ∗ ∃ g, oLoc d L ↦[rowSet s]{fullShare} g)
/-- The same after: the words in the row. -/
def RowDone (s : Fin 2) (t : ℕ) : sProp 𝕄 :=
  iprop((∃ f, iLoc d L ↦[rowSet s]{fullShare} f) ∗ (∃ tb, ⌜TabHolds m d L tb⌝ ∗ tLoc d L ↦{fullShare} tb)
    ∗ ∃ g, ⌜OutHolds m d L s t g⌝ ∗ oLoc d L ↦[rowSet s]{fullShare} g)

theorem row_loop3 (hp : InScene (nA m d)) (t : ℕ) (a1 : BitVec 32) (n : Fin k0_t2_loop.trips) (b c : BitVec 32)
    {β : Type} {kk : Unit → Prog (TpuEff nD τ sig (Elt F) Λ₀ (tt d L).2) β} {Q : β → sProp 𝕄} :
    RowStart m d L 0 t
      ⊢ iprop((RowDone m d L 0 t -∗ wp frame (wpE (defs₀ (F := F)) 𝒱₀ (tt d L) none) Set.univ (kk ()) Q)
        -∗ wp frame (wpE (defs₀ (F := F)) 𝒱₀ (tt d L) none) Set.univ
          (Scf.Loop.for k0_t3_loop k0_t3_ok ⟨⟩ (k0_t3_body L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n b c) >>= kk) Q) := by
  unfold RowStart
  iintro ⟨⟨%f, %hf, Hi⟩, ⟨%tb, %ht, Ht⟩, ⟨%g, Ho⟩⟩ Hk
  iapply (Scf.wp_for_bind frame (wpE (defs₀ (F := F)) 𝒱₀ (tt d L) none) Set.univ _ _ _ k0_t3_ok () _ (fun i _ => RowPart m d L 0 t tb f i) ?body) $$ [Hi Ht Ho]
  case body =>
    intro j acc
    have hj : j.val < 512 := lt_of_lt_of_eq j.isLt trips3
    exact lane_step m d L hp 0 t tb ht f hf j.val hj (k0_off7_inb j) (k0_off8_inb j) (k0_off7_eq j) (k0_off8_eq j) _ _ _ _
  · unfold RowPart
    isplitl [Hi]; · iexact Hi
    isplitl [Ht]; · iexact Ht
    iexists g
    isplitr
    · ipureintro; intro j hj; omega
    iexact Ho
  iintro %acc HR
  iapply Hk
  unfold RowPart RowDone
  icases HR with ⟨Hi, Ht, %g', %hg', Ho⟩
  isplitl [Hi]; · iexists f; iexact Hi
  isplitl [Ht]
  · iexists tb
    isplitr
    · ipureintro; exact ht
    iexact Ht
  iexists g'
  isplitr
  rotate_left
  · iexact Ho
  · ipureintro
    intro j
    exact hg' j (lt_of_lt_of_le j.isLt (by rw [show Scf.trips _ _ _ = 512 from trips3]))

theorem row_loop4 (hp : InScene (nA m d)) (t : ℕ) (a1 : BitVec 32) (n : Fin k0_t2_loop.trips) (b c e g : BitVec 32) (u v : BitVec 1)
    {β : Type} {kk : Unit → Prog (TpuEff nD τ sig (Elt F) Λ₀ (tt d L).2) β} {Q : β → sProp 𝕄} :
    RowStart m d L 1 t
      ⊢ iprop((RowDone m d L 1 t -∗ wp frame (wpE (defs₀ (F := F)) 𝒱₀ (tt d L) none) Set.univ (kk ()) Q)
        -∗ wp frame (wpE (defs₀ (F := F)) 𝒱₀ (tt d L) none) Set.univ
          (Scf.Loop.for k0_t4_loop k0_t4_ok ⟨⟩ (k0_t4_body L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n b c e g u v) >>= kk) Q) := by
  unfold RowStart
  iintro ⟨⟨%f, %hf, Hi⟩, ⟨%tb, %ht, Ht⟩, ⟨%g, Ho⟩⟩ Hk
  iapply (Scf.wp_for_bind frame (wpE (defs₀ (F := F)) 𝒱₀ (tt d L) none) Set.univ _ _ _ k0_t4_ok () _ (fun i _ => RowPart m d L 1 t tb f i) ?body) $$ [Hi Ht Ho]
  case body =>
    intro j acc
    have hj : j.val < 512 := lt_of_lt_of_eq j.isLt trips4
    exact lane_step m d L hp 1 t tb ht f hf j.val hj (k0_off12_inb j) (k0_off13_inb j) (k0_off12_eq j) (k0_off13_eq j) _ _ _ _
  · unfold RowPart
    isplitl [Hi]; · iexact Hi
    isplitl [Ht]; · iexact Ht
    iexists g
    isplitr
    · ipureintro; intro j hj; omega
    iexact Ho
  iintro %acc HR
  iapply Hk
  unfold RowPart RowDone
  icases HR with ⟨Hi, Ht, %g', %hg', Ho⟩
  isplitl [Hi]; · iexists f; iexact Hi
  isplitl [Ht]
  · iexists tb
    isplitr
    · ipureintro; exact ht
    iexact Ht
  iexists g'
  isplitr
  rotate_left
  · iexact Ho
  · ipureintro
    intro j
    exact hg' j (lt_of_lt_of_le j.isLt (by rw [show Scf.trips _ _ _ = 512 from trips4]))

end Cert.Proof.GatherTile

end
-- ==== Proof.GatherTable.lean ====
/-
  The gather's table: a row of words copied into the scratch, and sixteen zeros at a time stored past its end.
-/
module

public import proofs.«01_k».proof.Proof.GatherRows
public import Idealize.ShloMosaic.Lib.Transfers

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [BitOps F]

/-! ## The row's copy -/

/-- What the copy of the row hands over. -/
def tabD (q : PosShare TreeShare) : sProp 𝕄 :=
  iprop((∃ f, ⌜∀ j : Fin 81920, f (ix1 (⟨j.val, by omega⟩ : Fin 82048) : S82048.Idx) = word (xA m d) ⟨(L 0).val, lt0 L⟩ ⟨(L 1).val, lt1 L⟩ j.val⌝
      ∗ tLoc d L ↦[tM.view.set]{fullShare} f)
    ∗ xLoc d ↦[(xM (k0_off1 L) (k0_off1_inb L)).view.set]{q} m (xLoc d))
/-- The bits it moves. -/
def NT : ℕ := tM.view.dmaCredit
/-- The copy under way. -/
def TabPend (q : PosShare TreeShare) : sProp 𝕄 :=
  iprop(Flight EC (tt d L) (SemLoc.dma cc0_scratch3.sem) none NT (tabD m d L q)
    ∗ xLoc d ↦[Finset.univ \ (xM (k0_off1 L) (k0_off1_inb L)).view.set]{q} m (xLoc d))

theorem copy_holds (fd : Buf (Elt F) (tLoc d L)) (j : Fin 81920) :
    tM.view.write (Elt F) fd ((ReadAs.same : ReadAs (Elt F) S81920 .i32 S81920 .i32).apply ((xM (k0_off1 L) (k0_off1_inb L)).view.read (Elt F) (m (xLoc d)))) Finset.univ
        (ix1 (⟨j.val, by omega⟩ : Fin 82048) : S82048.Idx)
      = word (xA m d) ⟨(L 0).val, lt0 L⟩ ⟨(L 1).val, lt1 L⟩ j.val := by
  rw [← tM_emb j, View.write_emb_of_mem _ _ (Finset.mem_univ _)]
  have e0 : k0_off1 L 0 = (L 0).val := by rw [off1_eq']; rfl
  have e1 : k0_off1 L 1 = (L 1).val := by rw [off1_eq']; rfl
  have e2 : k0_off1 L 2 = 0 := by rw [off1_eq']; rfl
  have ex := xM_emb (off := k0_off1 L) (k0_off1_inb L) j (⟨(L 0).val, by have := lt0 L; omega⟩ : Fin 12) (⟨(L 1).val, lt1 L⟩ : Fin 16) e0 e1 e2
  unfold word
  rw [dif_pos j.isLt]
  refine Eq.trans ?_ (congrArg (xA m d) ex)
  rfl

variable {α : Type} {Q : α → sProp (MT nD τ sig (HIx 1) (Elt F) ℕ UU ℕ)}

theorem start_tab (q : PosShare TreeShare)
    {hsrc : (xM (k0_off1 L) (k0_off1_inb L)).view.WordExact} {hdst : tM.view.WordExact}
    {hsem : DmaTarget.Typed (nD := nD) Space.hbm (SemLoc.dma cc0_scratch3.sem) (.here (p := (tt d L).2) tM)}
    {k : PUnit → Prog (TpuEff nD τ sig (Elt F) Λ₀ (tt d L).2) α} (fd : Buf (Elt F) (tLoc d L)) :
    iprop((tLoc d L ↦[tM.view.set]{fullShare} fd) ∗ (xLoc d ↦{q} m (xLoc d)) ∗ semVal (tt d L, SemLoc.dma cc0_scratch3.sem) 0)
      ⊢ iprop((TabPend m d L q -∗ wp frame (wpE (defs₀ (F := F)) 𝒱₀ (tt d L) none) Set.univ (k ⟨⟩) Q)
          -∗ wp frame (wpE (defs₀ (F := F)) 𝒱₀ (tt d L) none) Set.univ
            (.op (.enqueueDma (xM (k0_off1 L) (k0_off1_inb L)) (.here tM) (SemLoc.dma cc0_scratch3.sem) hsrc hdst hsem) k) Q) := by
  iintro ⟨Ht, Hx, Hsem⟩ Hk
  ihave Hx' := ((pointsTo_split_subset (ℓ := xLoc d) (q := q) (f := m (xLoc d)) (Finset.subset_univ (xM (k0_off1 L) (k0_off1_inb L)).view.set)).1) $$ Hx
  icases Hx' with ⟨Hx, Hrest⟩
  iapply (Transfers.wp_dmaLocal EC 𝒱₀ (tt d L) none (src := xM (k0_off1 L) (k0_off1_inb L)) (dst := tM) (Sd := tM.view.set) (fd := fd) none NT rfl
    (View.amount_pos _ (SemLoc.dma cc0_scratch3.sem) (by decide)) (Finset.Subset.refl _)) $$ [Hx Ht Hsem]
  · isplitl [Hx]; · iexact Hx
    isplitl [Ht]; · iexact Ht
    iexact Hsem
  iintro HF
  iapply Hk
  unfold TabPend
  isplitr [Hrest]
  · iapply (Transfers.Flight_mono EC ?_) $$ HF
    unfold tabD
    iintro ⟨Hr, Hn⟩
    isplitl [Hr]
    · iexists _
      isplitr
      · ipureintro; exact copy_holds m d L fd
      iexact Hr
    iexact Hn
  iexact Hrest

/-! ## The zeros past it -/

/-- The first `16 · n` zeros stored. -/
def PadPart (n : ℕ) : sProp 𝕄 :=
  iprop(∃ f, ⌜∀ p : Fin 82048, 81920 ≤ p.val → p.val < 81920 + 16 * n → f (ix1 p : S82048.Idx) = (0#32 : BitVec 32)⌝
    ∗ tLoc d L ↦[Finset.univ \ tM.view.set]{fullShare} f)

theorem pad_mem {ro : Fin 1 → ℕ} (h : ∀ a, ro a + S16.size a ≤ S82048.size a) (n : ℕ) (e : ro = ![16 * n + 81920]) (i : S82048.Idx) :
    i ∈ (sT.access (Rect.unit (s := S82048) ro S16.size h)).set ↔ 16 * n + 81920 ≤ (i 0).val ∧ (i 0).val < 16 * n + 81920 + 16 := by
  show i ∈ ((View.whole (cc0_scratch0 : Ref sig .scVector)).slice (Rect.unit (s := S82048) ro S16.size h)).set ↔ _
  rw [View.set_slice_whole, Rect.mem_set_unit]
  subst e
  exact forall_fin1 (P := fun a => (![16 * n + 81920] : Fin 1 → ℕ) a ≤ (i a).val ∧ (i a).val < (![16 * n + 81920] : Fin 1 → ℕ) a + S16.size a)

theorem pad_loop (f0 : Buf (Elt F) (tLoc d L)) {kk : Unit → Prog (TpuEff nD τ sig (Elt F) Λ₀ (tt d L).2) α} :
    iprop(tLoc d L ↦[Finset.univ \ tM.view.set]{fullShare} f0)
      ⊢ iprop((PadPart d L 8 -∗ wp frame (wpE (defs₀ (F := F)) 𝒱₀ (tt d L) none) Set.univ (kk ()) Q)
        -∗ wp frame (wpE (defs₀ (F := F)) 𝒱₀ (tt d L) none) Set.univ
          (Scf.Loop.for k0_t1_loop k0_t1_ok ⟨⟩ (k0_t1_body L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5) >>= kk) Q) := by
  iintro Ht Hk
  iapply (Scf.wp_for_bind frame (wpE (defs₀ (F := F)) 𝒱₀ (tt d L) none) Set.univ _ _ _ k0_t1_ok () _ (fun i _ => PadPart d L i) ?body) $$ [Ht]
  case body =>
    intro n acc
    have hsub : (sT.access (Rect.unit (s := S82048) (k0_off4 n) S16.size (k0_off4_inb n))).set ⊆ Finset.univ \ tM.view.set := by
      intro i hi
      rw [pad_mem (k0_off4_inb n) n.val (k0_off4_eq n)] at hi
      rw [Finset.mem_sdiff, mem_tM]
      exact ⟨Finset.mem_univ _, by omega⟩
    unfold PadPart k0_t1_body
    simp only [Prog.lift, Prog.bind_op, Prog.bind_ret, Prog.pure_eq_ret]
    iintro ⟨%f, %hf, Ht⟩
    iapply (wp_load_rect 𝒱₀ (tt d L) none Set.univ (m := sT) (r := Rect.unit (s := S82048) (k0_off4 n) S16.size (k0_off4_inb n)) (S := Finset.univ \ tM.view.set) (q := fullShare) (f := f) hsub) $$ Ht
    iintro Ht
    iapply (wp_store 𝒱₀ (tt d L) none Set.univ (m := sT) (r := Rect.unit (s := S82048) (k0_off4 n) S16.size (k0_off4_inb n)) (Mk := Finset.univ) (S := Finset.univ \ tM.view.set) (f := f) hsub) $$ Ht
    iintro Ht
    rw [wp_ret]; imodintro
    iexists _
    isplitr
    rotate_left
    · iexact Ht
    · ipureintro
      intro p hp hp'
      by_cases hk : p.val < 81920 + 16 * n.val
      · rw [View.write_of_not_mem]
        · exact hf p hp hk
        · intro hi
          have hi' := (pad_mem (k0_off4_inb n) n.val (k0_off4_eq n) (ix1 p)).mp hi
          have hi' : 16 * n.val + 81920 ≤ p.val ∧ p.val < 16 * n.val + 81920 + 16 := hi'
          omega
      · have hi := (pad_mem (k0_off4_inb n) n.val (k0_off4_eq n) (ix1 p)).mpr ⟨(by show 16 * n.val + 81920 ≤ p.val; omega), (by show p.val < 16 * n.val + 81920 + 16; omega)⟩
        obtain ⟨x, -, hx⟩ := Finset.mem_map.mp hi
        rw [← hx, View.write_emb_of_mem _ _ (Finset.mem_univ _)]
        rfl
  · unfold PadPart
    iexists f0
    isplitr
    · ipureintro; intro p hp hp'; omega
    iexact Ht
  iintro %acc HR
  iapply Hk
  rw [show Scf.trips _ _ _ = 8 from trips1]
  iexact HR

/-- The table whole: the zeros stored and the row's copy waited for. -/
theorem wait_tab (q : PosShare TreeShare) (O : CellTallies nD τ sig (HIx 1)) (W : Waits sig (HIx 1))
    {hsrc : (xM (k0_off1 L) (k0_off1_inb L)).view.WordExact} {hdst : tM.view.WordExact}
    {k : PUnit → Prog (TpuEff nD τ sig (Elt F) Λ₀ (tt d L).2) α} :
    iprop(TabPend m d L q ∗ PadPart d L 8 ∗ Owes d L O W ∗ MayWaits (tt d L) none O)
      ⊢ iprop((iprop((∃ tb, ⌜TabHolds m d L tb⌝ ∗ tLoc d L ↦{fullShare} tb) ∗ (xLoc d ↦{q} m (xLoc d))
              ∗ semVal (tt d L, SemLoc.dma cc0_scratch3.sem) 0 ∗ Owes d L O W)
            -∗ wp frame (wpE (defs₀ (F := F)) 𝒱₀ (tt d L) none) Set.univ (k ⟨⟩) Q)
          -∗ wp frame (wpE (defs₀ (F := F)) 𝒱₀ (tt d L) none) Set.univ
            (.op (.waitDma2 cc0_scratch3.sem (xM (k0_off1 L) (k0_off1_inb L)) tM hsrc hdst) k) Q) := by
  unfold TabPend PadPart Owes
  iintro ⟨⟨HF, Hrest⟩, ⟨%f, %hf, Hpad⟩, ⟨%W', %hW', HO⟩, HM⟩ Hk
  ihave HM' := (MayWaits.elim (SemLoc.dma cc0_scratch3.sem)) $$ HM
  iapply (Transfers.wp_waitLocalO EC 𝒱₀ (tt d L) none (srcw := xM (k0_off1 L) (k0_off1_inb L)) (dstw := tM) none (N := NT) rfl) $$ [HF HO HM']
  · isplitl [HF]; · iexact HF
    isplitl [HO]; · iexact HO
    iexact HM'
  unfold tabD
  iintro ⟨⟨⟨%g, %hg, Hrow⟩, Hx⟩, Hsem, HO⟩
  iapply Hk
  isplitl [Hrow Hpad]
  · iexists (tM.view.set.piecewise g f)
    isplitr
    rotate_left
    · iapply (pointsTo_join_subset (ℓ := tLoc d L) (q := fullShare) (Finset.subset_univ tM.view.set))
      isplitl [Hrow]; · iexact Hrow
      iexact Hpad
    · ipureintro
      intro p
      by_cases hp : p.val < 81920
      · rw [Finset.piecewise_eq_of_mem _ _ _ ((mem_tM (ix1 p)).mpr hp)]
        exact hg ⟨p.val, hp⟩
      · rw [Finset.piecewise_eq_of_notMem _ _ _ (fun h => hp ((mem_tM (ix1 p)).mp h))]
        refine (hf p (by omega) (by have := p.isLt; omega)).trans ?_
        unfold word
        rw [dif_neg hp]
  isplitl [Hx Hrest]
  · iapply ((pointsTo_split_subset (ℓ := xLoc d) (q := q) (f := m (xLoc d)) (Finset.subset_univ (xM (k0_off1 L) (k0_off1_inb L)).view.set)).2)
    isplitl [Hx]; · iexact Hx
    iexact Hrest
  isplitl [Hsem]; · iexact Hsem
  iexists _
  isplitr
  rotate_left
  · iexact HO
  · ipureintro
    intro p hp
    rcases Finset.mem_insert.mp hp with rfl | hp
    · exact Or.inr rfl
    · exact hW' p hp

end Cert.Proof.GatherTile

end
-- ==== Proof.GatherTile.lean ====
/-
  The gather on one vector subcore: the table built, then two steps a round — each slot's numbers waited for, its old
  words' transfer waited for, the row looked up and sent, the next numbers asked for.
-/
module

public import proofs.«01_k».proof.Proof.GatherTable
public import Idealize.ShloMosaic.Lib.Transfers

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [BitOps F]

/-! ## The slots' semaphores -/

abbrev semI0 : DmaSem sig := ((cc0_scratch4.slice (Rect.unit (s := S2) ![0] S1.size inb_S2_S1_0)).squeeze S_ squeezes_S1_S_).sem
abbrev semI1 : DmaSem sig := ((cc0_scratch4.slice (Rect.unit (s := S2) ![1] S1.size inb_S2_S1_1)).squeeze S_ squeezes_S1_S_).sem
abbrev semO0 : DmaSem sig := ((cc0_scratch5.slice (Rect.unit (s := S2) ![0] S1.size inb_S2_S1_0)).squeeze S_ squeezes_S1_S_).sem
abbrev semO1 : DmaSem sig := ((cc0_scratch5.slice (Rect.unit (s := S2) ![1] S1.size inb_S2_S1_1)).squeeze S_ squeezes_S1_S_).sem

/-! ## A slot before a step -/

/-- The index slot that step `t` will use: its fetch under way, or idle past the last step. -/
def IdxPart (q : PosShare TreeShare) (sem : DmaSem sig) (s : Fin 2) (t : ℕ) : sProp 𝕄 :=
  if t < 270 then IdxPend m d L q sem s t else IdxIdle m d L q sem s
/-- The word slot that step `t` will use: idle in the first round, after it two steps before's words under way. -/
def OutPart (sem : DmaSem sig) (s : Fin 2) (t : ℕ) : sProp 𝕄 :=
  if t < 2 then OutIdle d L sem s else OutPend m d L sem s (t - 2)
/-- The table whole. -/
def Tab : sProp 𝕄 := iprop(∃ tb, ⌜TabHolds m d L tb⌝ ∗ tLoc d L ↦{fullShare} tb)
/-- The result's part that is done, and the part still as it was. -/
abbrev gDone (t : ℕ) : sProp 𝕄 := gLoc d ↦[steps L 0 t]{fullShare} gEnd m d
abbrev gRest (t : ℕ) : sProp 𝕄 := gLoc d ↦[steps L t 270]{fullShare} m (gLoc d)

variable {α : Type} {Q : α → sProp (MT nD τ sig (HIx 1) (Elt F) ℕ UU ℕ)}

/-- A conditional whose other branch goes straight on. -/
theorem wp_dite_join {c : Prop} [Decidable c] {P R : sProp 𝕄} {A : c → Prog (TpuEff nD τ sig (Elt F) Λ₀ (tt d L).2) α}
    {rest : Prog (TpuEff nD τ sig (Elt F) Λ₀ (tt d L).2) α}
    (hA : ∀ h : c, P ⊢ iprop((R -∗ wp frame (wpE (defs₀ (F := F)) 𝒱₀ (tt d L) none) Set.univ rest Q)
      -∗ wp frame (wpE (defs₀ (F := F)) 𝒱₀ (tt d L) none) Set.univ (A h) Q))
    (hB : ¬ c → P ⊢ R) :
    P ⊢ iprop((R -∗ wp frame (wpE (defs₀ (F := F)) 𝒱₀ (tt d L) none) Set.univ rest Q)
      -∗ wp frame (wpE (defs₀ (F := F)) 𝒱₀ (tt d L) none) Set.univ (if h : c then A h else rest) Q) := by
  by_cases h : c
  · rw [dif_pos h]; exact hA h
  · rw [dif_neg h]
    iintro HP Hk
    iapply Hk
    iapply (hB h) $$ HP

/-- What is done of the result with one step more. -/
theorem done_add (t : ℕ) (ht : 2 ≤ t) :
    iprop(gDone m d L (t - 2) ∗ gLoc d ↦[steps L (t - 2) (t - 2 + 1)]{fullShare} gEnd m d) ⊢ gDone m d L (t - 1) := by
  have e : steps L 0 (t - 1) = steps L 0 (t - 2) ∪ steps L (t - 2) (t - 2 + 1) := by
    rw [steps_union L 0 (t - 2) (t - 2 + 1) (Nat.zero_le _) (Nat.le_add_right _ 1), show t - 2 + 1 = t - 1 from by omega]
  unfold gDone
  rw [e]
  exact (pointsTo_union (steps_disjoint L 0 (t - 2) (t - 2 + 1))).2

/-- The next step's part out of the rest. -/
theorem rest_take (t : ℕ) (ht : t < 270) :
    gRest m d L t ⊢ iprop((gLoc d ↦[steps L t (t + 1)]{fullShare} m (gLoc d)) ∗ gRest m d L (t + 1)) := by
  unfold gRest
  rw [← steps_union L t (t + 1) 270 (Nat.le_succ _) ht]
  exact (pointsTo_union (steps_disjoint L t (t + 1) 270)).1

/-- The word slot freed, its old words in place. -/
def OutFree (sem : DmaSem sig) (s : Fin 2) (t : ℕ) (O : CellTallies nD τ sig (HIx 1)) (W : Waits sig (HIx 1)) : sProp 𝕄 :=
  iprop(OutIdle d L sem s ∗ gDone m d L (t - 1) ∗ Owes d L O W)

theorem out_wait (sem : DmaSem sig) (s : Fin 2) (t : ℕ) (ht : 2 ≤ t)
    (O : CellTallies nD τ sig (HIx 1)) (W : Waits sig (HIx 1)) {off : Fin 3 → ℕ} (h : ∀ a, off a + S1x1x8192.size a ≤ S2x432x81920.size a)
    {ro : Fin 2 → ℕ} (hr : ∀ a, ro a + S1x8192.size a ≤ S2x8192.size a)
    {hsrc : (rowM sO ro hr).view.WordExact} {hdst : (gM off h).view.WordExact}
    {rest : Prog (TpuEff nD τ sig (Elt F) Λ₀ (tt d L).2) α} :
    iprop(OutPart m d L sem s t ∗ gDone m d L (t - 2) ∗ Owes d L O W ∗ MayWaits (tt d L) none O)
      ⊢ iprop((OutFree m d L sem s t O W -∗ wp frame (wpE (defs₀ (F := F)) 𝒱₀ (tt d L) none) Set.univ rest Q)
          -∗ wp frame (wpE (defs₀ (F := F)) 𝒱₀ (tt d L) none) Set.univ (.op (.waitDma2 sem (rowM sO ro hr) (gM off h) hsrc hdst) fun _ => rest) Q) := by
  unfold OutPart OutFree
  rw [if_neg (by omega)]
  iintro ⟨HF, Hg, HO, HM⟩ Hk
  iapply (wait_out m d L sem s (t - 2) O W h hr) $$ [HF HO HM]
  · isplitl [HF]; · iexact HF
    isplitl [HO]; · iexact HO
    iexact HM
  iintro ⟨Hi, Hg', HO⟩
  iapply Hk
  isplitl [Hi]; · iexact Hi
  isplitr [HO]
  · iapply (done_add m d L t ht)
    isplitl [Hg]; · iexact Hg
    iexact Hg'
  iexact HO

theorem out_skip (sem : DmaSem sig) (s : Fin 2) (t : ℕ) (ht : t < 2) (O : CellTallies nD τ sig (HIx 1)) (W : Waits sig (HIx 1)) :
    iprop(OutPart m d L sem s t ∗ gDone m d L (t - 2) ∗ Owes d L O W ∗ MayWaits (tt d L) none O) ⊢ OutFree m d L sem s t O W := by
  unfold OutPart OutFree
  rw [if_pos ht, show t - 2 = 0 from by omega, show t - 1 = 0 from by omega]
  iintro ⟨HF, Hg, HO, #HM⟩
  isplitl [HF]; · iexact HF
  isplitl [Hg]; · iexact Hg
  iexact HO

theorem idx_next (q : PosShare TreeShare) (sem : DmaSem sig) (s : Fin 2) (t : ℕ) (ht : t < 270)
    {off : Fin 3 → ℕ} (h : ∀ a, off a + S1x1x8192.size a ≤ S12x27x81920.size a) (e : off = nOff L t)
    {ro : Fin 2 → ℕ} (hr : ∀ a, ro a + S1x8192.size a ≤ S2x8192.size a) (hs : ro 0 = s.val) (h1 : ro 1 = 0)
    {hsrc : (nM off h).view.WordExact} {hdst : (rowM sI ro hr).view.WordExact}
    {hsem : DmaTarget.Typed (nD := nD) Space.hbm (SemLoc.dma sem) (.here (p := (tt d L).2) (rowM sI ro hr))}
    {k : PUnit → Prog (TpuEff nD τ sig (Elt F) Λ₀ (tt d L).2) α} :
    IdxIdle m d L q sem s
      ⊢ iprop((IdxPart m d L q sem s t -∗ wp frame (wpE (defs₀ (F := F)) 𝒱₀ (tt d L) none) Set.univ (k ⟨⟩) Q)
          -∗ wp frame (wpE (defs₀ (F := F)) 𝒱₀ (tt d L) none) Set.univ (.op (.enqueueDma (nM off h) (.here (rowM sI ro hr)) (SemLoc.dma sem) hsrc hdst hsem) k) Q) := by
  unfold IdxPart
  rw [if_pos ht]
  exact start_idx m d L q sem s t ht h e hr hs h1

theorem idx_skip (q : PosShare TreeShare) (sem : DmaSem sig) (s : Fin 2) (t : ℕ) (ht : 270 ≤ t) : IdxIdle m d L q sem s ⊢ IdxPart m d L q sem s t := by
  unfold IdxPart
  rw [if_neg (by omega)]

/-- A row's look-up between the slots' states: before it, and after. -/
theorem row_in (q : PosShare TreeShare) (semI semO : DmaSem sig) (s : Fin 2) (t : ℕ) :
    iprop(IdxGot m d L q semI s t ∗ OutIdle d L semO s ∗ Tab m d L)
      ⊢ iprop(RowStart m d L s t ∗ ((nLoc d ↦{q} m (nLoc d)) ∗ semVal (tt d L, SemLoc.dma semI) 0 ∗ semVal (tt d L, SemLoc.dma semO) 0)) := by
  unfold IdxGot OutIdle Tab RowStart
  iintro ⟨⟨Hi, Hn, Hs⟩, ⟨Ho, Hs'⟩, Ht⟩
  isplitl [Hi Ho Ht]
  · isplitl [Hi]; · iexact Hi
    isplitl [Ht]; · iexact Ht
    iexact Ho
  isplitl [Hn]; · iexact Hn
  isplitl [Hs]; · iexact Hs
  iexact Hs'
theorem row_out (q : PosShare TreeShare) (semI semO : DmaSem sig) (s : Fin 2) (t : ℕ) :
    iprop(RowDone m d L s t ∗ ((nLoc d ↦{q} m (nLoc d)) ∗ semVal (tt d L, SemLoc.dma semI) 0 ∗ semVal (tt d L, SemLoc.dma semO) 0))
      ⊢ iprop(IdxIdle m d L q semI s ∗ OutRdy m d L semO s t ∗ Tab m d L) := by
  unfold IdxIdle OutRdy Tab RowDone
  iintro ⟨⟨Hi, Ht, Ho⟩, Hn, Hs, Hs'⟩
  isplitl [Hi Hn Hs]
  · isplitl [Hi]; · iexact Hi
    isplitl [Hn]; · iexact Hn
    iexact Hs
  isplitl [Ho Hs']
  · isplitl [Ho]; · iexact Ho
    iexact Hs'
  iexact Ht

/-! ## A round's four parts -/

/-- Slot 0's numbers waited for, its old words' transfer waited for, the row looked up. -/
theorem part4 (hp : InScene (nA m d)) (q : PosShare TreeShare) (O : CellTallies nD τ sig (HIx 1)) (W : Waits sig (HIx 1))
    (a1 : BitVec 32) (n : Fin k0_t2_loop.trips) (b c : BitVec 32) :
    iprop(MayWaits (tt d L) none O ∗ Owes d L O W ∗ IdxPart m d L q semI0 0 (2 * n.val) ∗ OutPart m d L semO0 0 (2 * n.val) ∗ Tab m d L ∗ gDone m d L (2 * n.val - 2))
      ⊢ wp frame (wpE (defs₀ (F := F)) 𝒱₀ (tt d L) none) Set.univ
          (k0_part4 L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n b c)
          fun _ => iprop(Owes d L O W ∗ IdxIdle m d L q semI0 0 ∗ OutRdy m d L semO0 0 (2 * n.val) ∗ Tab m d L ∗ gDone m d L (2 * n.val - 1)) := by
  have hn : n.val < 135 := lt_of_lt_of_eq n.isLt trips2
  simp only [k0_part4_eq_skeleton]; unfold k0_part4_skel
  simp only [k0_part1_eq_skeleton]; unfold k0_part1_skel
  simp only [Prog.lift, Prog.bind_op, Prog.bind_ret, Prog.pure_eq_ret]
  unfold IdxPart
  rw [if_pos (by omega)]
  iintro ⟨#HM, HO, HI, HOut, HT, Hg⟩
  iapply (wait_idx m d L q semI0 0 (2 * n.val) O W (off := k0_off5 L n 0#32) (k0_off5_inb L n 0) (ro := ![0, 0]) inb_S2x8192_S1x8192_0_0) $$ [HI HO]
  · isplitl [HI]; · iexact HI
    isplitl [HO]; · iexact HO
    iexact HM
  iintro ⟨HI, HO⟩
  iapply (wp_dite_join d L (P := iprop(OutPart m d L semO0 0 (2 * n.val) ∗ gDone m d L (2 * n.val - 2) ∗ Owes d L O W ∗ MayWaits (tt d L) none O))
    (R := OutFree m d L semO0 0 (2 * n.val) O W) (fun h => ?hA) (fun h => ?hB)) $$ [HOut Hg HO]
  case hA => exact out_wait m d L semO0 0 (2 * n.val) (by have := (cond1_iff n).mp h; omega) O W _ _
  case hB => exact out_skip m d L semO0 0 (2 * n.val) (by have := mt (cond1_iff n).mpr h; omega) O W
  · isplitl [HOut]; · iexact HOut
    isplitl [Hg]; · iexact Hg
    isplitl [HO]; · iexact HO
    iexact HM
  unfold OutFree
  iintro ⟨HOut, Hg, HO⟩
  ihave HR := (row_in m d L q semI0 semO0 0 (2 * n.val)) $$ [HI HOut HT]
  · isplitl [HI]; · iexact HI
    isplitl [HOut]; · iexact HOut
    iexact HT
  icases HR with ⟨HR, Hrest⟩
  iapply (row_loop3 m d L hp (2 * n.val) a1 n b c) $$ HR
  iintro HR
  ihave HR' := (row_out m d L q semI0 semO0 0 (2 * n.val)) $$ [HR Hrest]
  · isplitl [HR]; · iexact HR
    iexact Hrest
  icases HR' with ⟨HI, HOut, HT⟩
  rw [wp_ret]; imodintro
  isplitl [HO]; · iexact HO
  isplitl [HI]; · iexact HI
  isplitl [HOut]; · iexact HOut
  isplitl [HT]; · iexact HT
  iexact Hg

/-- Slot 0's words sent, its next numbers asked for. -/
theorem part5 (q : PosShare TreeShare) (a1 : BitVec 32) (n : Fin k0_t2_loop.trips) (b c e : BitVec 32) :
    iprop(IdxIdle m d L q semI0 0 ∗ OutRdy m d L semO0 0 (2 * n.val) ∗ gRest m d L (2 * n.val))
      ⊢ wp frame (wpE (defs₀ (F := F)) 𝒱₀ (tt d L) none) Set.univ
          (k0_part5 L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n b c e)
          fun _ => iprop(IdxPart m d L q semI0 0 (2 * n.val + 2) ∗ OutPend m d L semO0 0 (2 * n.val) ∗ gRest m d L (2 * n.val + 1)) := by
  have hn : n.val < 135 := lt_of_lt_of_eq n.isLt trips2
  simp only [k0_part5_eq_skeleton]; unfold k0_part5_skel
  simp only [Prog.lift, Prog.bind_op, Prog.bind_ret, Prog.pure_eq_ret]
  iintro ⟨HI, HOut, Hg⟩
  ihave Hg' := (rest_take m d L (2 * n.val) (by omega)) $$ Hg
  icases Hg' with ⟨Hg1, Hg⟩
  iapply (start_out m d L semO0 0 (2 * n.val) (by omega) (off := k0_off9 L n 0#32) (k0_off9_inb L n 0) (off9_0_eq L n) (ro := ![0, 0]) inb_S2x8192_S1x8192_0_0 rfl rfl) $$ [HOut Hg1]
  · isplitl [HOut]; · iexact HOut
    iexact Hg1
  iintro HOut
  iapply (wp_dite_join d L (P := IdxIdle m d L q semI0 0) (R := IdxPart m d L q semI0 0 (2 * n.val + 2)) (fun h => ?hA) (fun h => ?hB)) $$ HI
  case hA => exact idx_next m d L q semI0 0 (2 * n.val + 2) (by have := (cond2_iff n).mp h; omega) (k0_off10_inb L n h) (off10_eq L n h) (ro := ![0, 0]) inb_S2x8192_S1x8192_0_0 rfl rfl (k := fun _ => _)
  case hB => exact idx_skip m d L q semI0 0 (2 * n.val + 2) (by have := mt (cond2_iff n).mpr h; omega)
  iintro HI
  rw [wp_ret]; imodintro
  isplitl [HI]; · iexact HI
  isplitl [HOut]; · iexact HOut
  iexact Hg

/-- Slot 1's numbers waited for, its old words' transfer waited for, the row looked up. -/
theorem part6 (hp : InScene (nA m d)) (q : PosShare TreeShare) (O : CellTallies nD τ sig (HIx 1)) (W : Waits sig (HIx 1))
    (a1 : BitVec 32) (n : Fin k0_t2_loop.trips) (b c e g : BitVec 32) (u v : BitVec 1) :
    iprop(MayWaits (tt d L) none O ∗ Owes d L O W ∗ IdxPart m d L q semI1 1 (2 * n.val + 1) ∗ OutPart m d L semO1 1 (2 * n.val + 1) ∗ Tab m d L ∗ gDone m d L (2 * n.val - 1))
      ⊢ wp frame (wpE (defs₀ (F := F)) 𝒱₀ (tt d L) none) Set.univ
          (k0_part6 L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n b c e g u v)
          fun _ => iprop(Owes d L O W ∗ IdxIdle m d L q semI1 1 ∗ OutRdy m d L semO1 1 (2 * n.val + 1) ∗ Tab m d L ∗ gDone m d L (2 * n.val)) := by
  have hn : n.val < 135 := lt_of_lt_of_eq n.isLt trips2
  simp only [k0_part6_eq_skeleton]; unfold k0_part6_skel
  simp only [k0_part2_eq_skeleton]; unfold k0_part2_skel
  simp only [Prog.lift, Prog.bind_op, Prog.bind_ret, Prog.pure_eq_ret]
  unfold IdxPart
  rw [if_pos (by omega)]
  iintro ⟨#HM, HO, HI, HOut, HT, Hg⟩
  iapply (wait_idx m d L q semI1 1 (2 * n.val + 1) O W (off := k0_off5 L n 1#32) (k0_off5_inb L n 1) (ro := ![1, 0]) inb_S2x8192_S1x8192_1_0) $$ [HI HO]
  · isplitl [HI]; · iexact HI
    isplitl [HO]; · iexact HO
    iexact HM
  iintro ⟨HI, HO⟩
  iapply (wp_dite_join d L (P := iprop(OutPart m d L semO1 1 (2 * n.val + 1) ∗ gDone m d L (2 * n.val + 1 - 2) ∗ Owes d L O W ∗ MayWaits (tt d L) none O))
    (R := OutFree m d L semO1 1 (2 * n.val + 1) O W) (fun h => ?hA) (fun h => ?hB)) $$ [HOut Hg HO]
  case hA => exact out_wait m d L semO1 1 (2 * n.val + 1) (by have := (cond3_iff n).mp h; omega) O W _ _
  case hB => exact out_skip m d L semO1 1 (2 * n.val + 1) (by have := mt (cond3_iff n).mpr h; omega) O W
  · isplitl [HOut]; · iexact HOut
    isplitl [Hg]
    · rw [show 2 * n.val + 1 - 2 = 2 * n.val - 1 from by omega]; iexact Hg
    isplitl [HO]; · iexact HO
    iexact HM
  unfold OutFree
  iintro ⟨HOut, Hg, HO⟩
  ihave HR := (row_in m d L q semI1 semO1 1 (2 * n.val + 1)) $$ [HI HOut HT]
  · isplitl [HI]; · iexact HI
    isplitl [HOut]; · iexact HOut
    iexact HT
  icases HR with ⟨HR, Hrest⟩
  iapply (row_loop4 m d L hp (2 * n.val + 1) a1 n b c e g u v) $$ HR
  iintro HR
  ihave HR' := (row_out m d L q semI1 semO1 1 (2 * n.val + 1)) $$ [HR Hrest]
  · isplitl [HR]; · iexact HR
    iexact Hrest
  icases HR' with ⟨HI, HOut, HT⟩
  rw [wp_ret]; imodintro
  isplitl [HO]; · iexact HO
  isplitl [HI]; · iexact HI
  isplitl [HOut]; · iexact HOut
  isplitl [HT]; · iexact HT
  iexact Hg

/-! ## A round, and the whole task -/

/-- Between rounds: the next two steps' numbers asked for, the last two steps' words under way. -/
def Round (q0 q1 : PosShare TreeShare) (O : CellTallies nD τ sig (HIx 1)) (W : Waits sig (HIx 1)) (n : ℕ) : sProp 𝕄 :=
  iprop(MayWaits (tt d L) none O ∗ Owes d L O W
    ∗ (IdxPart m d L q0 semI0 0 (2 * n) ∗ IdxPart m d L q1 semI1 1 (2 * n + 1))
    ∗ (OutPart m d L semO0 0 (2 * n) ∗ OutPart m d L semO1 1 (2 * n + 1))
    ∗ Tab m d L ∗ gDone m d L (2 * n - 2) ∗ gRest m d L (2 * n))

theorem round (hp : InScene (nA m d)) (q0 q1 : PosShare TreeShare) (O : CellTallies nD τ sig (HIx 1)) (W : Waits sig (HIx 1))
    (a1 : BitVec 32) (n : Fin k0_t2_loop.trips) :
    Round m d L q0 q1 O W n.val
      ⊢ wp frame (wpE (defs₀ (F := F)) 𝒱₀ (tt d L) none) Set.univ
          (k0_t2_body L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5 a1 n ())
          fun _ => Round m d L q0 q1 O W (n.val + 1) := by
  have hn : n.val < 135 := lt_of_lt_of_eq n.isLt trips2
  unfold k0_t2_body Round
  simp only [k0_part3_eq_skeleton]; unfold k0_part3_skel
  simp only [Prog.lift, Prog.bind_op, Prog.bind_ret, Prog.pure_eq_ret]
  iintro ⟨#HM, HO, ⟨HI0, HI1⟩, ⟨HOut0, HOut1⟩, HT, Hg, Hr⟩
  rw [wp_bind]
  iapply (wp_wand_r frame (wpE (defs₀ (F := F)) 𝒱₀ (tt d L) none))
  isplitl [HO HI0 HOut0 HT Hg]
  · iapply (part4 m d L hp q0 O W a1 n _ _)
    isplitr; · iexact HM
    isplitl [HO]; · iexact HO
    isplitl [HI0]; · iexact HI0
    isplitl [HOut0]; · iexact HOut0
    isplitl [HT]; · iexact HT
    iexact Hg
  iintro %v130 ⟨HO, HI0, HOut0, HT, Hg⟩
  rw [wp_bind]
  iapply (wp_wand_r frame (wpE (defs₀ (F := F)) 𝒱₀ (tt d L) none))
  isplitl [HI0 HOut0 Hr]
  · iapply (part5 m d L q0 a1 n _ _ v130)
    isplitl [HI0]; · iexact HI0
    isplitl [HOut0]; · iexact HOut0
    iexact Hr
  iintro %v5 ⟨HI0, HOut0, Hr⟩
  rw [wp_bind]
  iapply (wp_wand_r frame (wpE (defs₀ (F := F)) 𝒱₀ (tt d L) none))
  isplitl [HO HI1 HOut1 HT Hg]
  · iapply (part6 m d L hp q1 O W a1 n _ _ _ _ _ _)
    isplitr; · iexact HM
    isplitl [HO]; · iexact HO
    isplitl [HI1]; · iexact HI1
    isplitl [HOut1]; · iexact HOut1
    isplitl [HT]; · iexact HT
    iexact Hg
  iintro %v6 ⟨HO, HI1, HOut1, HT, Hg⟩
  ihave Hr' := (rest_take m d L (2 * n.val + 1) (by omega)) $$ Hr
  icases Hr' with ⟨Hr1, Hr⟩
  iapply (start_out m d L semO1 1 (2 * n.val + 1) (by omega) (off := k0_off9 L n 1#32) (k0_off9_inb L n 1) (off9_1_eq L n) (ro := ![1, 0]) inb_S2x8192_S1x8192_1_0 rfl rfl) $$ [HOut1 Hr1]
  · isplitl [HOut1]; · iexact HOut1
    iexact Hr1
  iintro HOut1
  iapply (wp_dite_join d L (P := IdxIdle m d L q1 semI1 1) (R := IdxPart m d L q1 semI1 1 (2 * n.val + 3)) (fun h => ?hA) (fun h => ?hB)) $$ HI1
  case hA => exact idx_next m d L q1 semI1 1 (2 * n.val + 3) (by have := (cond4_iff n).mp h; omega) (k0_off14_inb L n h) (off14_eq L n h) (ro := ![1, 0]) inb_S2x8192_S1x8192_1_0 rfl rfl (k := fun _ => _)
  case hB => exact idx_skip m d L q1 semI1 1 (2 * n.val + 3) (by have := mt (cond4_iff n).mpr h; omega)
  iintro HI1
  rw [wp_ret]; imodintro
  isplitr; · iexact HM
  isplitl [HO]; · iexact HO
  isplitl [HI0 HI1]
  · isplitl [HI0]; · iexact HI0
    iexact HI1
  isplitl [HOut0 HOut1]
  · unfold OutPart
    rw [if_neg (by omega), if_neg (by omega)]
    isplitl [HOut0]; · iexact HOut0
    iexact HOut1
  isplitl [HT]; · iexact HT
  isplitl [Hg]; · iexact Hg
  iexact Hr

end Cert.Proof.GatherTile

end
-- ==== Proof.GatherTask.lean ====
/-
  The gather's whole task on one vector subcore: its three scratch buffers and five semaphores taken, the rounds run, all
  of it handed back with the subcore's part of the result written.
-/
module

public import proofs.«01_k».proof.Proof.GatherTile
public import Idealize.ShloMosaic.Lib.Transfers

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

variable [BitOps F]

/-! ## The subcore's own buffers and semaphores -/

/-- The semaphore of the table's copy. -/
abbrev semT : DmaSem sig := cc0_scratch3.sem
/-- A transfer semaphore of this subcore. -/
abbrev cell (s : DmaSem sig) : GSem nD τ sig := (tt d L, SemLoc.dma s)

omit [BitOps F] in
theorem cell_ne {a b : DmaSem sig} (h : a ≠ b) : cell d L a ≠ cell d L b :=
  fun e => h (SemLoc.dma.inj (Prod.mk.inj e).2)
omit [BitOps F] in
theorem cell_own (a : DmaSem sig) : cell d L a ∈ ownCells (tt d L) :=
  mem_ownCells.mpr ⟨rfl, (by decide : ∀ a : DmaSem sig, (SemLoc.dma a : SemLoc sig).isScoped .scVector = true) a⟩

/-- The cells left over. -/
def cellsLeft : Finset (GSem nD τ sig) :=
  (((((ownCells (tt d L)).erase (cell d L semT)).erase (cell d L semI0)).erase (cell d L semI1)).erase (cell d L semO0)).erase (cell d L semO1)

omit [BitOps F] in
theorem ownSems0_tile :
    (ownSems0 (tt d L) : sProp 𝕄)
      = iprop(semVal (cell d L semT) 0 ∗ semVal (cell d L semI0) 0 ∗ semVal (cell d L semI1) 0 ∗ semVal (cell d L semO0) 0
          ∗ semVal (cell d L semO1) 0 ∗ bigSep (cellsLeft d L) fun g => semVal g 0) := by
  unfold SparseCore.Cfg.ownSems0 cellsLeft
  rw [SparseCore.bigSep_erase' (cell_own d L semT),
    SparseCore.bigSep_erase' (Finset.mem_erase.mpr ⟨cell_ne d L (a := semI0) (b := semT) (by decide), cell_own d L semI0⟩),
    SparseCore.bigSep_erase' (Finset.mem_erase.mpr ⟨cell_ne d L (a := semI1) (b := semI0) (by decide),
      Finset.mem_erase.mpr ⟨cell_ne d L (a := semI1) (b := semT) (by decide), cell_own d L semI1⟩⟩),
    SparseCore.bigSep_erase' (Finset.mem_erase.mpr ⟨cell_ne d L (a := semO0) (b := semI1) (by decide),
      Finset.mem_erase.mpr ⟨cell_ne d L (a := semO0) (b := semI0) (by decide),
        Finset.mem_erase.mpr ⟨cell_ne d L (a := semO0) (b := semT) (by decide), cell_own d L semO0⟩⟩⟩),
    SparseCore.bigSep_erase' (Finset.mem_erase.mpr ⟨cell_ne d L (a := semO1) (b := semO0) (by decide),
      Finset.mem_erase.mpr ⟨cell_ne d L (a := semO1) (b := semI1) (by decide),
        Finset.mem_erase.mpr ⟨cell_ne d L (a := semO1) (b := semI0) (by decide),
          Finset.mem_erase.mpr ⟨cell_ne d L (a := semO1) (b := semT) (by decide), cell_own d L semO1⟩⟩⟩⟩)]

omit [BitOps F] in
/-- The three scratch buffers are among the subcore's own: they are them, at some contents, and the rest. -/
theorem ownBufs_tile :
    (ownBufs (tt d L) : sProp 𝕄)
      = iprop((∃ f, tLoc d L ↦{fullShare} f) ∗ (∃ f, iLoc d L ↦{fullShare} f) ∗ (∃ f, oLoc d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [BitOps F] in
/-- The index scratch's two rows make the whole. -/
theorem idx_join (f g : Buf (Elt F) (iLoc d L)) :
    iprop((iLoc d L ↦[rowSet 0]{fullShare} f) ∗ iLoc d L ↦[rowSet 1]{fullShare} g) ⊢ (iprop(∃ h, iLoc d L ↦{fullShare} h) : sProp 𝕄) := by
  rw [← rowSet_compl]
  iintro ⟨H0, H1⟩
  iexists _
  iapply (pointsTo_join_subset (Finset.subset_univ (rowSet 0))) $$ [H0 H1]
  isplitl [H0]; · iexact H0
  iexact H1
omit [BitOps F] in
/-- The word scratch's two rows make the whole. -/
theorem out_join (f g : Buf (Elt F) (oLoc d L)) :
    iprop((oLoc d L ↦[rowSet 0]{fullShare} f) ∗ oLoc d L ↦[rowSet 1]{fullShare} g) ⊢ (iprop(∃ h, oLoc d L ↦{fullShare} h) : sProp 𝕄) := by
  rw [← rowSet_compl]
  iintro ⟨H0, H1⟩
  iexists _
  iapply (pointsTo_join_subset (Finset.subset_univ (rowSet 0))) $$ [H0 H1]
  isplitl [H0]; · iexact H0
  iexact H1

/-! ## The task -/

/-- What the tile takes and returns of the arrays. -/
abbrev Args (q q0 q1 : PosShare TreeShare) : sProp 𝕄 :=
  iprop((xLoc d ↦{q} m (xLoc d)) ∗ (nLoc d ↦{q0} m (nLoc d)) ∗ nLoc d ↦{q1} m (nLoc d))

theorem off15_step : k0_off15 L = gOff L 268 := by rw [k0_off15_eq]; revert L; decide +kernel
theorem off16_step : k0_off16 L = gOff L 269 := by rw [k0_off16_eq]; revert L; decide +kernel

theorem tile_body (hF : (K (F := F)).Facts) (hp : InScene (nA m d)) (q q0 q1 : PosShare TreeShare)
    (O : CellTallies nD τ sig (HIx 1)) (W : Waits sig (HIx 1)) (hO : ∀ g, O g none = 0) :
    iprop(levAts (K (F := F)).L (K (F := F)).lev ∗ emp
        ∗ (Args m d q q0 q1 ∗ gLoc d ↦[steps L 0 270]{fullShare} m (gLoc d))
        ∗ scopedBufs (tt d L) ∗ scopedSems0 (tt d L) ∗ owes (tt d L) O W)
      ⊢ wp frame (wpE (defs₀ (F := F)) 𝒱₀ (tt d L) none) Set.univ
          (cc0_gather_0 L xV (Memref.isWhole_whole _) nV (Memref.isWhole_whole _) gV (Memref.isWhole_whole _)
            sT (Memref.isWhole_whole _) sI (Memref.isWhole_whole _) sO (Memref.isWhole_whole _) cc0_scratch3 cc0_scratch4 cc0_scratch5)
          fun _ => iprop((Args m d q q0 q1 ∗ gLoc d ↦[steps L 0 270]{fullShare} gEnd m d)
            ∗ scopedBufs (tt d L) ∗ scopedSems0 (tt d L) ∗ ∃ W', ⌜∀ p ∈ W', p ∈ W ∨ p.2 = none⌝ ∗ owes (tt d L) O W') := by
  simp only [cc0_gather_0_eq_skeleton]; unfold cc0_gather_0_skel
  simp only [k0_part7_eq_skeleton]; unfold k0_part7_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_tile, ownBufs_tile]
  iintro ⟨#Hlv, -, ⟨⟨Hx, Hn0, Hn1⟩, Hg⟩, ⟨⟨%ft, Ht⟩, ⟨%fi, Hi⟩, ⟨%fo, Ho⟩, Hbufs⟩, ⟨HsT, HsI0, HsI1, HsO0, HsO1, Hsems⟩, HO⟩
  ihave #HM := ((K (F := F)).mayWaits_none hO) $$ Hlv
  -- the table's words and its padding; each slot its row
  ihave Ht' := ((pointsTo_split_subset (ℓ := tLoc d L) (q := fullShare) (f := ft) (Finset.subset_univ tM.view.set)).1) $$ Ht
  icases Ht' with ⟨Ht, Htp⟩
  ihave Hi' := ((pointsTo_split_subset (ℓ := iLoc d L) (q := fullShare) (f := fi) (Finset.subset_univ (rowSet 0))).1) $$ Hi
  icases Hi' with ⟨Hi0, Hi1⟩
  ihave Ho' := ((pointsTo_split_subset (ℓ := oLoc d L) (q := fullShare) (f := fo) (Finset.subset_univ (rowSet 0))).1) $$ Ho
  icases Ho' with ⟨Ho0, Ho1⟩
  iapply (start_tab m d L q ft) $$ [Ht Hx HsT]
  · isplitl [Ht]; · iexact Ht
    isplitl [Hx]; · iexact Hx
    iexact HsT
  iintro HT
  iapply (start_idx m d L q0 semI0 0 0 (by omega) (off := k0_off2 L) (k0_off2_inb L) (off2_eq L) (ro := ![0, 0]) inb_S2x8192_S1x8192_0_0 rfl rfl) $$ [Hi0 Hn0 HsI0]
  · unfold IdxIdle
    isplitl [Hi0]; · iexists _; iexact Hi0
    isplitl [Hn0]; · iexact Hn0
    iexact HsI0
  iintro HI0
  iapply (start_idx m d L q1 semI1 1 1 (by omega) (off := k0_off3 L) (k0_off3_inb L) (off3_eq L) (ro := ![1, 0]) inb_S2x8192_S1x8192_1_0 rfl rfl) $$ [Hi1 Hn1 HsI1]
  · unfold IdxIdle
    isplitl [Hi1]; · iexists _; rw [← rowSet_compl]; iexact Hi1
    isplitl [Hn1]; · iexact Hn1
    iexact HsI1
  iintro HI1
  iapply (pad_loop d L ft) $$ Htp
  iintro Hpad
  iapply (wait_tab m d L q O W) $$ [HT Hpad HO]
  · isplitl [HT]; · iexact HT
    isplitl [Hpad]; · iexact Hpad
    isplitl [HO]
    · unfold Owes; iexists W; isplitr
      · ipureintro; exact fun p hp => Or.inl hp
      iexact HO
    iexact HM
  iintro ⟨HTab, Hx, HsT, HO⟩
  iapply (Scf.wp_for_bind frame (wpE (defs₀ (F := F)) 𝒱₀ (tt d L) none) Set.univ _ _ _ k0_t2_ok () _ (fun i _ => Round m d L q0 q1 O W i) ?body) $$ [HO HI0 HI1 Ho0 Ho1 HsO0 HsO1 HTab Hg]
  case body =>
    intro n acc
    exact round m d L hp q0 q1 O W _ n
  · unfold Round IdxPart OutPart
    rw [if_pos (by omega), if_pos (by omega), if_pos (by omega), if_pos (by omega)]
    isplitr; · iexact HM
    isplitl [HO]; · iexact HO
    isplitl [HI0 HI1]
    · isplitl [HI0]; · iexact HI0
      iexact HI1
    isplitl [Ho0 Ho1 HsO0 HsO1]
    · unfold OutIdle
      isplitl [Ho0 HsO0]
      · isplitl [Ho0]; · iexists _; iexact Ho0
        iexact HsO0
      isplitl [Ho1]; · iexists _; rw [← rowSet_compl]; iexact Ho1
      iexact HsO1
    isplitl [HTab]; · unfold Tab; iexact HTab
    isplitr
    · unfold gDone; rw [show 2 * 0 - 2 = 0 from rfl, steps_empty, pointsTo_empty]; iempintro
    iexact Hg
  iintro %_u HR
  rw [show Scf.trips k0_t2_loop.lb k0_t2_loop.ub k0_t2_loop.st = 135 from trips2]
  unfold Round IdxPart OutPart
  rw [if_neg (by omega), if_neg (by omega), if_neg (by omega), if_neg (by omega)]
  icases HR with ⟨-, HO, ⟨HI0, HI1⟩, ⟨HOut0, HOut1⟩, HTab, Hg, -⟩
  iapply (wait_out m d L semO0 0 268 O W (off := k0_off15 L) (k0_off15_inb L) (ro := ![0, 0]) inb_S2x8192_S1x8192_0_0) $$ [HOut0 HO]
  · isplitl [HOut0]; · iexact HOut0
    isplitl [HO]; · iexact HO
    iexact HM
  iintro ⟨HOut0, Hg0, HO⟩
  iapply (wait_out m d L semO1 1 269 O W (off := k0_off16 L) (k0_off16_inb L) (ro := ![1, 0]) inb_S2x8192_S1x8192_1_0) $$ [HOut1 HO]
  · isplitl [HOut1]; · iexact HOut1
    isplitl [HO]; · iexact HO
    iexact HM
  iintro ⟨HOut1, Hg1, HO⟩
  ihave Hg' := (done_add m d L 270 (by omega)) $$ [Hg Hg0]
  · isplitl [Hg]; · iexact Hg
    iexact Hg0
  ihave Hg := (done_add m d L 271 (by omega)) $$ [Hg' Hg1]
  · isplitl [Hg']; · iexact Hg'
    iexact Hg1
  unfold IdxIdle OutIdle Tab Owes
  icases HI0 with ⟨⟨%f1, Hi0⟩, Hn0, HsI0⟩
  icases HI1 with ⟨⟨%f2, Hi1⟩, Hn1, HsI1⟩
  icases HOut0 with ⟨⟨%f3, Ho0⟩, HsO0⟩
  icases HOut1 with ⟨⟨%f4, Ho1⟩, HsO1⟩
  icases HTab with ⟨%tb, -, Ht⟩
  rw [wp_ret]; imodintro
  isplitl [Hx Hn0 Hn1 Hg]
  · isplitl [Hx Hn0 Hn1]
    · isplitl [Hx]; · iexact Hx
      isplitl [Hn0]; · iexact Hn0
      iexact Hn1
    iexact Hg
  isplitl [Ht Hi0 Hi1 Ho0 Ho1 Hbufs]
  · isplitl [Ht]; · iexists _; iexact Ht
    isplitl [Hi0 Hi1]
    · iapply (idx_join d L f1 f2) $$ [Hi0 Hi1]
      isplitl [Hi0]; · iexact Hi0
      iexact Hi1
    isplitl [Ho0 Ho1]
    · iapply (out_join d L f3 f4) $$ [Ho0 Ho1]
      isplitl [Ho0]; · iexact Ho0
      iexact Ho1
    iexact Hbufs
  isplitl [HsT HsI0 HsI1 HsO0 HsO1 Hsems]
  · isplitl [HsT]; · iexact HsT
    isplitl [HsI0]; · iexact HsI0
    isplitl [HsI1]; · iexact HsI1
    isplitl [HsO0]; · iexact HsO0
    isplitl [HsO1]; · iexact HsO1
    iexact Hsems
  iexact HO

end Cert.Proof.GatherTile

end
-- ==== Proof.GatherLaunch.lean ====
/-
  The gather's launch: the arrays dealt to the two cores and their sixteen tiles each, the tasks run, and the whole
  result handed back written.
-/
module

public import proofs.«01_k».proof.Proof.GatherTask
public import proofs.«01_k».proof.Defs
public import Idealize.ShloMosaic.Lib.Transfers
public import Idealize.ShloMosaic.Lib.Pipeline.Frame

@[expose] public section

noncomputable section

namespace Cert.Proof.GatherTile

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits dealOf pointsTo_deal)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays dealt -/

/-- Tile `i` of core `c`. -/
def co (c : Fin 2) (i : Fin 16) : grid0.Coords :=
  fun | 0 => c | 1 => i | ⟨_ + 2, h⟩ => absurd h (Nat.not_lt.2 (Nat.le_add_left _ _))

/-- A core's share of an argument, a tile's, and the two of it that its two slots read. -/
abbrev qc (c : Fin 2) : PosShare TreeShare := dealOf fullShare (Finset.univ : Finset (Fin 2)) c
abbrev qt (c : Fin 2) (i : Fin 16) : PosShare TreeShare := dealOf (qc c) (Finset.univ : Finset (Fin 16)) i
abbrev qs (c : Fin 2) (i : Fin 16) (s : Fin 2) : PosShare TreeShare := dealOf (qt c i) (Finset.univ : Finset (Fin 2)) s

/-- Core `c`'s part of the result: scene `c`. -/
def coreSet (c : Fin 2) : Finset S2x432x81920.Idx := Finset.univ.filter fun i => (i 0).val = c.val
theorem mem_coreSet (c : Fin 2) (i : S2x432x81920.Idx) : i ∈ coreSet c ↔ (i 0).val = c.val := by simp [coreSet]

/-- What a core takes and returns; what a tile does. -/
abbrev corePts (d : Dev nD) (c : Fin 2) (f : Buf (Elt F) (gLoc d)) : sProp 𝕄 :=
  iprop((xLoc d ↦{qc c} m (xLoc d)) ∗ (nLoc d ↦{qc c} m (nLoc d)) ∗ gLoc d ↦[coreSet c]{fullShare} f)
abbrev tilePts (d : Dev nD) (c : Fin 2) (i : Fin 16) (f : Buf (Elt F) (gLoc d)) : sProp 𝕄 :=
  iprop(Args m d (qt c i) (qs c i 0) (qs c i 1) ∗ gLoc d ↦[steps (co c i) 0 270]{fullShare} f)

theorem two_eq : (Finset.univ : Finset (Fin 2)) = {0, 1} := by decide

theorem cores_cover : (Finset.univ : Finset (Fin 2)).biUnion coreSet = Finset.univ := by
  ext i
  rw [Finset.mem_biUnion]
  exact ⟨fun _ => Finset.mem_univ _, fun _ => ⟨i 0, Finset.mem_univ _, (mem_coreSet _ _).mpr rfl⟩⟩
theorem cores_disjoint : ∀ a ∈ (Finset.univ : Finset (Fin 2)), ∀ b ∈ (Finset.univ : Finset (Fin 2)), a ≠ b → Disjoint (coreSet a) (coreSet b) := by
  intro a _ b _ h
  rw [Finset.disjoint_left]
  intro i h1 h2
  rw [mem_coreSet] at h1 h2
  exact h (Fin.ext (h1.symm.trans h2))

theorem tiles_cover (c : Fin 2) : (Finset.univ : Finset (Fin 16)).biUnion (fun i => steps (co c i) 0 270) = coreSet c := by
  ext i
  rw [Finset.mem_biUnion, mem_coreSet]
  have h1 : (i 1).val < 432 := (i 1).isLt
  have h2 : (i 2).val < 81920 := (i 2).isLt
  constructor
  · rintro ⟨t, -, h⟩
    rw [mem_steps] at h
    exact h.1
  · intro h
    refine ⟨⟨(i 1).val % 16, Nat.mod_lt _ (by decide)⟩, Finset.mem_univ _, ?_⟩
    rw [mem_steps]
    refine ⟨h, rfl, Nat.zero_le _, ?_⟩
    omega
theorem tiles_disjoint (c : Fin 2) : ∀ a ∈ (Finset.univ : Finset (Fin 16)), ∀ b ∈ (Finset.univ : Finset (Fin 16)), a ≠ b →
    Disjoint (steps (co c a) 0 270) (steps (co c b) 0 270) := by
  intro a _ b _ h
  rw [Finset.disjoint_left]
  intro i h1 h2
  rw [mem_steps] at h1 h2
  exact h (Fin.ext (h1.2.1.symm.trans h2.2.1))

/-- The arrays whole are the cores' parts. -/
theorem cores_eq (d : Dev nD) (f : Buf (Elt F) (gLoc d)) :
    (iprop((xLoc d ↦{fullShare} m (xLoc d)) ∗ (nLoc d ↦{fullShare} m (nLoc d)) ∗ gLoc d ↦{fullShare} f) : sProp 𝕄)
      = bigSep Finset.univ fun c : Fin 2 => corePts m d c f := by
  rw [bigSep_sep', bigSep_sep', ← pointsTo_biUnion Finset.univ (ℓ := gLoc d) coreSet cores_disjoint, cores_cover,
    ← pointsTo_deal Finset.univ Finset.univ_nonempty fullShare, ← pointsTo_deal Finset.univ Finset.univ_nonempty fullShare]

theorem slots_eq (d : Dev nD) (c : Fin 2) (i : Fin 16) :
    (nLoc d ↦{qt c i} m (nLoc d) : sProp 𝕄) = iprop((nLoc d ↦{qs c i 0} m (nLoc d)) ∗ nLoc d ↦{qs c i 1} m (nLoc d)) := by
  rw [pointsTo_deal (Finset.univ : Finset (Fin 2)) Finset.univ_nonempty (qt c i)]
  conv_lhs => rw [two_eq]
  rw [SparseCore.bigSep_insert' (by decide), bigSep_singleton, ← two_eq]

/-- A core's part is its tiles'. -/
theorem tiles_eq (d : Dev nD) (c : Fin 2) (f : Buf (Elt F) (gLoc d)) :
    (corePts m d c f : sProp 𝕄) = bigSep Finset.univ fun i : Fin 16 => tilePts m d c i f := by
  unfold tilePts Args
  rw [bigSep_sep', bigSep_sep', ← pointsTo_biUnion Finset.univ (ℓ := gLoc d) (fun i => steps (co c i) 0 270) (tiles_disjoint c), tiles_cover,
    ← pointsTo_deal Finset.univ Finset.univ_nonempty (qc c), bigSep_congr fun i _ => (slots_eq m d c i).symm,
    ← pointsTo_deal Finset.univ Finset.univ_nonempty (qc c)]
  unfold corePts
  exact Idealize.SL.BI.Entails.antisymm Idealize.SL.BI.sep_assoc' Idealize.SL.BI.sep_assoc

variable [BitOps F]

theorem nCore_zero : (K (F := F)).nCore 0 = 2 := rfl
theorem nSub_zero : (K (F := F)).nSub 0 = 16 := rfl

/-- The call takes each core's part and brings it back written; each task its tile's. -/
def P : (K (F := F)).Pay (nD := nD) (Val := Elt F) (Name := ℕ) (U := UU) where
  st := fun q d c => match q with | 0 => corePts m d (Fin.cast nCore_zero c) (m (gLoc d))
  dn := fun q d c => match q with | 0 => corePts m d (Fin.cast nCore_zero c) (gEnd m d)
  go := fun q d c i => match q with | 0 => tilePts m d (Fin.cast nCore_zero c) (Fin.cast nSub_zero i) (m (gLoc d))
  td := fun q d c i => match q with | 0 => tilePts m d (Fin.cast nCore_zero c) (Fin.cast nSub_zero i) (gEnd m d)
  x := fun _ _ => iprop(emp)

instance P_storable : (P (F := F) m).IsStorable where
  st q d c := match q with
    | 0 => (inferInstance : BI.Storable (upEmb : UEmb _ 𝕄) (corePts m d (Fin.cast nCore_zero c) (m (gLoc d))))
  dn q d c := match q with
    | 0 => (inferInstance : BI.Storable (upEmb : UEmb _ 𝕄) (corePts m d (Fin.cast nCore_zero c) (gEnd m d)))
  go q d c i := match q with
    | 0 => (inferInstance : BI.Storable (upEmb : UEmb _ 𝕄) (tilePts m d (Fin.cast nCore_zero c) (Fin.cast nSub_zero i) (m (gLoc d))))
  td q d c i := match q with
    | 0 => (inferInstance : BI.Storable (upEmb : UEmb _ 𝕄) (tilePts m d (Fin.cast nCore_zero c) (Fin.cast nSub_zero i) (gEnd m d)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_0 (coordsV c s)
          xV (Memref.isWhole_whole _) nV (Memref.isWhole_whole _) gV (Memref.isWhole_whole _)
          sT (Memref.isWhole_whole _) sI (Memref.isWhole_whole _) sO (Memref.isWhole_whole _) cc0_scratch3 cc0_scratch4 cc0_scratch5) ⟨⟩ c s := rfl

omit [BitOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hp : ∀ d, InScene (nA m d)) : (K (F := F)).TileObl (D (F := F)) 𝒱 (P m) v₀ 0 := by
  intro d c i O W hO _ _
  -- this kernel owes nothing for a protocol of its own (`Pay.ox` at its default)
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hp d) _ _ _ O W hO).trans (wp_mono frame _ _ fun _ => obl_post)

theorem vecSplit : (K (F := F)).VecSplit' (P m) 0 := by
  intro d c
  show corePts m d (Fin.cast nCore_zero c) (m (gLoc d)) ⊢ |={Set.univ}=> iprop(
      (bigSep Finset.univ fun i : Fin 16 => tilePts m d (Fin.cast nCore_zero c) i (m (gLoc d)))
      ∗ ((bigSep Finset.univ fun i : Fin 16 => tilePts m d (Fin.cast nCore_zero c) i (gEnd m d))
          -∗ corePts m d (Fin.cast nCore_zero c) (gEnd m d)))
  rw [← tiles_eq, ← tiles_eq]
  iintro H; imodintro
  isplitl [H]; · iexact H
  iintro H; iexact H

/-! ## The launch element: the handshakes' rounds; nothing of the kernel's own -/

def u₀ : UU := (initOf (K (F := F)).hsCells (K (F := F)).hsToks, 1)

omit [BitOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The host's lines before the call: the words of the codes, and the two transpositions. -/
abbrev ops : List (HloOp τ sig (Elt F)) :=
  [ StableHlo.reshape main_arg0 main_v0 (rfl : (.fp8e4m3 : EltTy) = .fp8e4m3) shapeCasts_S12x81920x64_S12x81920x16x4,
    StableHlo.unary main_v0 main_v1 ((fun x => Host.bitcastConvertWiden S12x81920x16 32 (bitcastToInt x) splits_S12x81920x16_w32_S12x81920x16x4_w8) : (⟨S12x81920x16x4, .fp8e4m3⟩ : BufTy).Contents (Elt F) → (⟨S12x81920x16, .i32⟩ : BufTy).Contents (Elt F)),
    StableHlo.unary main_v1 main_v2 ((transpose S12x16x81920 [0, 2, 1] · transposes_S12x81920x16_S12x16x81920_0_2_1) : (⟨S12x81920x16, .i32⟩ : BufTy).Contents (Elt F) → (⟨S12x16x81920, .i32⟩ : BufTy).Contents (Elt F)),
    StableHlo.unary main_arg1 main_v3 ((transpose S12x27x81920 [0, 2, 1] · transposes_S12x81920x27_S12x27x81920_0_2_1) : (⟨S12x81920x27, .i32⟩ : BufTy).Contents (Elt F) → (⟨S12x27x81920, .i32⟩ : BufTy).Contents (Elt F)) ]

/-- The memory the call finds: what the host's lines leave. -/
def m1 : (ℓ : Loc nD τ sig) → Buf (Elt F) ℓ := fun ℓ => StableHlo.after ops (fun b => m (ℓ.1, b)) ℓ.2

abbrev cLoc (d : Dev nD) : Loc nD τ sig := (SparseCore.T d).loc main_arg0
abbrev bLoc (d : Dev nD) : Loc nD τ sig := (SparseCore.T d).loc main_arg1

theorem m1_codes (d : Dev nD) : m1 m (cLoc d) = m (cLoc d) := by
  show StableHlo.after ops (fun b => m (d, b)) (Proc.devRef .tc main_arg0) = _
  after_results <;> rfl
theorem m1_nbr (d : Dev nD) : m1 m (bLoc d) = m (bLoc d) := by
  show StableHlo.after ops (fun b => m (d, b)) (Proc.devRef .tc main_arg1) = _
  after_results <;> rfl
/-- The words the call reads. -/
theorem m1_words (d : Dev nD) : xA (m1 m) d = transpose S12x16x81920 [0, 2, 1]
    (Host.bitcastConvertWiden S12x81920x16 32 (bitcastToInt (shapeCast S12x81920x16x4 (m (cLoc d)) shapeCasts_S12x81920x64_S12x81920x16x4)) splits_S12x81920x16_w32_S12x81920x16x4_w8)
    transposes_S12x81920x16_S12x16x81920_0_2_1 := by
  show StableHlo.after ops (fun b => m (d, b)) (Proc.devRef .tc main_v2) = _
  after_results <;> rfl
/-- The neighbour numbers the call reads. -/
theorem m1_nbr_t (d : Dev nD) : nA (m1 m) d = transpose S12x27x81920 [0, 2, 1] (m (bLoc d)) transposes_S12x81920x27_S12x27x81920_0_2_1 := by
  show StableHlo.after ops (fun b => m (d, b)) (Proc.devRef .tc main_v3) = _
  after_results <;> rfl

theorem ucRefs_eq : Pipeline.ucRefs τ sig = {Proc.devRef .tc main_arg0, Proc.devRef .tc main_arg1, Proc.devRef .tc main_v0, Proc.devRef .tc main_v1,
    Proc.devRef .tc main_v2, Proc.devRef .tc main_v3, Proc.devRef .tc main_v4} := by decide

/-- What the call needs of the buffers, and the arguments, out of all of them. -/
theorem held_eq (d : Dev nD) :
    (StableHlo.held (d.tc : Thread nD τ) (Pipeline.ucRefs τ sig) (StableHlo.after ops (fun b => m (d, b))) : sProp 𝕄)
      ⊢ iprop((cLoc d ↦{fullShare} m1 m (cLoc d)) ∗ (bLoc d ↦{fullShare} m1 m (bLoc d)) ∗ (xLoc d ↦{fullShare} m1 m (xLoc d))
          ∗ (nLoc d ↦{fullShare} m1 m (nLoc d)) ∗ gLoc d ↦{fullShare} m1 m (gLoc d)) := by
  unfold StableHlo.held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  iintro ⟨Hc, Hb, -, -, Hx, Hn, Hg⟩
  isplitl [Hc]; · iexact Hc
  isplitl [Hb]; · iexact Hb
  isplitl [Hx]; · iexact Hx
  isplitl [Hn]; · iexact Hn
  iexact Hg

theorem ops_sub : ∀ op ∈ (ops : List (HloOp τ sig (Elt F))), op.bufs ⊆ Pipeline.ucRefs τ sig := by
  intro op h
  refine Pipeline.sub_ucRefs op ?_
  simp only [ops, List.mem_cons, List.not_mem_nil, or_false] at h
  rcases h with rfl | rfl | rfl | rfl
  · exact StableHlo.reshape_bufs_sub ..
  · exact StableHlo.unary_bufs_sub ..
  · exact StableHlo.unary_bufs_sub ..
  · exact StableHlo.unary_bufs_sub ..

theorem ops_fresh : ∀ op ∈ (ops : List (HloOp τ sig (Elt F))), op.fresh = ∅ := by
  intro op h
  simp only [ops, List.mem_cons, List.not_mem_nil, or_false] at h
  rcases h with rfl | rfl | rfl | rfl <;> rfl

/-- The arrays whole, the result at `f`. -/
abbrev All (d : Dev nD) (f : Buf (Elt F) (gLoc d)) : sProp 𝕄 :=
  iprop((xLoc d ↦{fullShare} m (xLoc d)) ∗ (nLoc d ↦{fullShare} m (nLoc d)) ∗ gLoc d ↦{fullShare} f)

theorem st0_eq (d : Dev nD) : (bigSep Finset.univ fun c : Fin ((K (F := F)).nCore 0) => (P m).st 0 d c) = All m d (m (gLoc d)) :=
  (cores_eq m d (m (gLoc d))).symm
theorem dn0_eq (d : Dev nD) : (bigSep Finset.univ fun c : Fin ((K (F := F)).nCore 0) => (P m).dn 0 d c) = All m d (gEnd m d) :=
  (cores_eq m d (gEnd m d)).symm

/-- What @main leaves: the arguments as they were, the result written. -/
abbrev FIN (d : Dev nD) : sProp 𝕄 :=
  iprop((cLoc d ↦{fullShare} m1 m (cLoc d)) ∗ (bLoc d ↦{fullShare} m1 m (bLoc d)) ∗ gLoc d ↦{fullShare} gEnd (m1 m) d)

/-- @main on device `d`'s TensorCore: the host's lines, then the one call, from the arrays whole; they come back, the result written. -/
theorem hmain (κ : GSem nD τ sig → ℕ) (d : Dev nD) :
    iprop((K (F := F)).ctx EH (P (m1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (Pipeline.ucRefs τ sig) (fun b => m (d, b))
    from Pipeline.unscopedBufs_held d (fun b => m (d, b)),
    show main (F := F) d = (StableHlo.seq ops >>= fun _ => (sc.run d 0 >>= fun _ => pure ⟨⟩)) from rfl]
  iintro ⟨#Hctx, Hst, ⟨Hb, Hheld, Hts, -⟩, -⟩
  iapply (StableHlo.wp_seq 𝒱 none Set.univ d (Pipeline.ucRefs τ sig) (fun _ => (sc.run d 0 >>= fun _ => pure ⟨⟩)) ops ops_sub ops_fresh (fun b : DevRef τ sig => m (d, b))) $$ [Hb Hheld]
  · isplitl [Hb] <;> iassumption
  iintro ⟨Hb, Hheld⟩
  ihave Hh := (held_eq m d) $$ Hheld
  icases Hh with ⟨Hc, Hbn, Hall⟩
  simp only [wp_bind, wp_pure]
  iapply ((K (F := F)).wp_run (D (F := F)) 𝒱 (EH := EH) (P := P (m1 m)) κ d 0) $$ [Hst Hall Hb Hts Hc Hbn]
  isplitr; · iexact Hctx
  isplitl [Hst]; · iexact Hst
  isplitl [Hall]
  · rw [st0_eq]; iexact Hall
  iintro ⟨Hst, Hdn⟩
  ihave Hdn' := (Entails.of_eq (dn0_eq (m1 m) d)) $$ Hdn
  icases Hdn' with ⟨-, -, Hg⟩
  imodintro
  isplitl [Hst]; · iexact Hst
  isplitl [Hc Hbn Hg]
  · isplitl [Hc]; · iexact Hc
    isplitl [Hbn] <;> iassumption
  isplitl [Hb] <;> iassumption

def fq (d : Dev nD) (s' : Phys nD τ sig (Elt F)) : Prop :=
  s'.mem.mem (cLoc d) = m (cLoc d) ∧ s'.mem.mem (bLoc d) = m (bLoc d) ∧ s'.mem.mem (gLoc d) = gEnd (m1 m) d

theorem hfin (d : Dev nD) (s' : Phys nD τ sig (Elt F)) : iprop(FIN m d ∗ SI s') ⊢ (⌜fq m d s'⌝ : sProp 𝕄) := by
  iintro ⟨⟨Hx, Hn, Hg⟩, HSI⟩
  ihave H := (persistent_entails_right (SI_pointsTo_agree (st := s') (ℓ := cLoc d) (I := Finset.univ) (q := fullShare) (f := m1 m (cLoc d)))) $$ [HSI Hx]
  · isplitl [HSI] <;> iassumption
  icases H with ⟨%h1, HSI, -⟩
  ihave H := (persistent_entails_right (SI_pointsTo_agree (st := s') (ℓ := bLoc d) (I := Finset.univ) (q := fullShare) (f := m1 m (bLoc d)))) $$ [HSI Hn]
  · isplitl [HSI] <;> iassumption
  icases H with ⟨%h2, HSI, -⟩
  ihave H := (SI_pointsTo_agree (st := s') (ℓ := gLoc d) (I := Finset.univ) (q := fullShare) (f := gEnd (m1 m) d)) $$ [HSI Hg]
  · isplitl [HSI] <;> iassumption
  icases H with %h3
  ipureintro
  exact ⟨(funext fun i => h1 i (Finset.mem_univ i)).trans (m1_codes m d), (funext fun i => h2 i (Finset.mem_univ i)).trans (m1_nbr m d),
    funext fun i => h3 i (Finset.mem_univ i)⟩

/-! ## The program's run -/

def QC : PUnit × MemSt nD τ sig (Elt F) → Prop := fun r =>
  (∀ c : Dev nD, r.2.mem (cLoc c) = m (cLoc c) ∧ r.2.mem (bLoc c) = m (bLoc c) ∧ r.2.mem (gLoc c) = gEnd (m1 m) c) ∧ r.2.sem = fun _ => 0

theorem run_main [∀ e, Nonempty (Elt F e)] (hp : ∀ d, InScene (nA (m1 m) d)) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P (m1 m)) (A := ∅) facts v₀
    (fun q hq => match q with | 0 => nomatch hq)
    (fun q _ => match q with | 0 => tileObl (m1 m) facts hp)
    (fun q _ => match q with | 0 => SparseCore.Cfg.VecSplit.of_plain (vecSplit (m1 m)))
    m ρ main (fun _ => iprop(emp)) (fun d => FIN m d) (u₀ (F := F)) (sep_elim_left.trans (hu₀ (m1 m))) (hmain m ρ) (fq m) (hfin m) (QC m) (fun _ h hz => ⟨h, hz⟩)

/-- The precondition — `nbr < 81920` elementwise, all ones — is what the proof asks of the launch memory. -/
theorem inScene_of_pre (m : (ℓ : Loc nD τ sig) → Buf (Elt Bits) ℓ) (h : Cert.Pre_Gather m) (d : Dev nD) : InScene (nA (F := Bits) (m1 m) d) := by
  intro i
  rw [m1_nbr_t]
  have e := congrFun (h d) (transposes_S12x81920x27_S12x27x81920_0_2_1.src i)
  simp only [Pre_nbr_in_scene.fn, cmpi, broadcastInDim, constantI] at e
  have key : ∀ v : BitVec 32, IntOp.cmpi .slt v 81920#32 = 1#1 → v.slt 0#32 = true ∨ v.toNat < 81920 := by
    intro v e
    have ofBool_eq_one (p : Bool) : (BitVec.ofBool p = 1#1) ↔ p = true := by cases p <;> decide
    have hv := v.isLt
    simp only [IntOp.cmpi, ofBool_eq_one, BitVec.slt_eq_decide, decide_eq_true_eq, BitVec.toInt_eq_toNat_cond, BitVec.toNat_ofNat,
      Nat.reducePow, Nat.reduceMod] at e ⊢
    omega
  exact key _ e

end Cert.Proof.GatherTile

end
-- ==== Proof.GatherReferenceValue.lean ====
/-
  The gather's reference: its composed term read at an index, and that it is the words `gathered` names.

  The reference slices two scenes out of `x` and of the neighbour numbers, takes along the voxels at the larger of the
  number and zero, and puts zero where the number is negative.
-/
module

public import proofs.«01_k».proof.Defs
public import proofs.«01_k».proof.Proof.Gen.GatherReference
public import proofs.«01_k».proof.Proof.Gen.GatherReference.Run
public import proofs.«01_k».proof.Proof.GatherSpec
public import Idealize.ShloMosaic.Lib.Pipeline.Value

@[expose] public section

noncomputable section

namespace Cert.Proof.GatherRef

open Cert.GatherReference Cert.GatherReference.Facts₀
open Idealize.ShloMosaic
open Cert.Proof.GatherTile (word gathered InScene)

abbrev gd : GatherDims S2x16x81920 S2x27x81920x1 S2x27x16x81920 :=
  gather_S2x16x81920_S2x27x81920x1_S2x27x16x81920_2_2_0_0_2_3_1161

/-! ## The gather at an index -/

/-- The take along the voxels reads row `w` of scene `b` at the start index, read signed and clamped to a voxel. -/
theorem gather_apply (x : S2x16x81920.Idx → BitVec 32) (idx : IVec S2x27x81920x1 32)
    (b : Fin 2) (k : Fin 27) (w : Fin 16) (j : Fin 81920) :
    Host.gather gd x idx (ix4 b k w j)
      = x (ix3 b w (⟨min (idx (ix4 b k j (0 : Fin 1))).toInt.toNat 81919, by omega⟩ : Fin 81920)) := by
  unfold Host.gather
  congr 1
  funext a
  refine Fin.ext ?_
  show gd.start (ix4 b k w j) idx a + gd.batchCoord (ix4 b k w j) a + gd.offCoord (ix4 b k w j) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gd.operandBatchingDims from List.mem_singleton.mpr rfl)]
    rfl
  · rw [GatherDims.batchCoord_eq_zero _ _ _ (show (1 : Fin 3) ∉ ([0] : List (Fin 3)) by decide)]
    unfold GatherDims.start GatherDims.offCoord
    rw [dif_neg (show (1 : Fin 3) ∉ gd.startIndexMap from (by decide : (1 : Fin 3) ∉ ([2] : List (Fin 3)))),
      dif_pos ((GatherDims.mem_sKept _ _).mpr ⟨(show (1 : Fin 3) ∉ ([2] : List (Fin 3)) by decide), (show (1 : Fin 3) ∉ ([0] : List (Fin 3)) by decide)⟩)]
    simp only [Nat.zero_add]
    rfl
  · rw [GatherDims.batchCoord_eq_zero _ _ _ (show (2 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gd.startIndexMap from List.mem_singleton.mpr rfl)]
    have hsi : gd.siIdx (ix4 b k w j) ⟨List.idxOf (2 : Fin 3) gd.startIndexMap,
        List.idxOf_lt_length_iff.2 (List.mem_singleton.mpr rfl)⟩ = (ix4 b k j (0 : Fin 1) : S2x27x81920x1.Idx) := by
      funext c; refine Fin.ext ?_
      match c with
      | ⟨0, _⟩ => rfl
      | ⟨1, _⟩ => rfl
      | ⟨2, _⟩ => rfl
      | ⟨3, _⟩ => rfl
    rw [hsi]
    rfl

/-! ## The other operations at an index -/

variable (x : S12x16x81920.Idx → BitVec 32) (nb : S12x27x81920.Idx → BitVec 32)

/-- The two scenes' neighbour numbers. -/
abbrev nb2 : IVec S2x27x81920 32 := extractStridedSlice S2x27x81920 ![0, 0, 0] nb slices_S12x27x81920_S2x27x81920_0_0_0

theorem nb2_apply (b : Fin 2) (k : Fin 27) (j : Fin 81920) :
    nb2 nb (ix3 b k j) = nb (ix3 (⟨b.val, by omega⟩ : Fin 12) k j) := by
  refine congrArg nb (Shape.idx3_ext ?_ ?_ ?_)
  · show 0 + b.val = b.val; omega
  · show 0 + k.val = k.val; omega
  · show 0 + j.val = j.val; omega

/-- The larger of the number and zero, with a unit axis for the rows. -/
abbrev mx : IVec S2x27x1x81920 32 := broadcastInDim S2x27x1x81920 ![0, 1, 3] bcast_S2x27x81920_S2x27x1x81920_0_1_3
  (maxsi (nb2 nb) (broadcastInDim S2x27x81920 ![] bcast_S_S2x27x81920 (constantI S_ 32 0#32)))

theorem bcast_unit {α : Type} (f : S2x27x81920.Idx → α) (b : Fin 2) (k : Fin 27) (j : Fin 81920) :
    broadcastInDim S2x27x1x81920 ![0, 1, 3] bcast_S2x27x81920_S2x27x1x81920_0_1_3 f (ix4 b k (0 : Fin 1) j) = f (ix3 b k j) :=
  congrArg f (Shape.idx3_ext rfl rfl rfl)

theorem bcast_rows {α : Type} (f : S2x27x1x81920.Idx → α) (b : Fin 2) (k : Fin 27) (w : Fin 16) (j : Fin 81920) :
    broadcastInDim S2x27x16x81920 ![0, 1, 2, 3] bcast_S2x27x1x81920_S2x27x16x81920_0_1_2_3 f (ix4 b k w j) = f (ix4 b k (0 : Fin 1) j) := by
  refine congrArg f (funext fun a => Fin.ext ?_)
  match a with
  | ⟨0, _⟩ => rfl
  | ⟨1, _⟩ => rfl
  | ⟨2, _⟩ => rfl
  | ⟨3, _⟩ => rfl

/-- The start indices: the larger of the number and zero, from the end if that were negative. -/
abbrev st : IVec S2x27x81920x1 32 :=
  shapeCast _ (select (cmpi .slt (mx nb) (broadcastInDim S2x27x1x81920 ![] bcast_S_S2x27x1x81920 (constantI S_ 32 0#32)))
    (addi (mx nb) (broadcastInDim S2x27x1x81920 ![] bcast_S_S2x27x1x81920 (constantI S_ 32 81920#32))) (mx nb))
    shapeCasts_S2x27x1x81920_S2x27x81920x1

theorem max_nonneg (n : BitVec 32) : (IntOp.maxsi n 0#32).slt 0#32 = false := by
  unfold IntOp.maxsi
  split
  · rename_i h
    simp only [BitVec.slt, decide_eq_true_eq, decide_eq_false_iff_not] at h ⊢; omega
  · decide

theorem st_apply (b : Fin 2) (k : Fin 27) (j : Fin 81920) :
    st nb (ix4 b k j (0 : Fin 1)) = IntOp.maxsi (nb (ix3 (⟨b.val, by omega⟩ : Fin 12) k j)) 0#32 := by
  have hm : mx nb (ix4 b k (0 : Fin 1) j) = IntOp.maxsi (nb (ix3 (⟨b.val, by omega⟩ : Fin 12) k j)) 0#32 := by
    rw [← nb2_apply nb b k j]; exact bcast_unit _ b k j
  refine (shapeCast_apply _ _ (ix4 b k j (0 : Fin 1)) (ix4 b k (0 : Fin 1) j) ?_).trans ?_
  · rw [Shape.rowMajor_val_four, Shape.rowMajor_val_four]
    show ((b.val * 27 + k.val) * 1 + 0) * 81920 + j.val = ((b.val * 27 + k.val) * 81920 + j.val) * 1 + 0
    omega
  · show (if BitVec.ofBool ((mx nb (ix4 b k (0 : Fin 1) j)).slt 0#32) = 1 then _ else mx nb (ix4 b k (0 : Fin 1) j)) = _
    rw [hm, max_nonneg, if_neg (by decide)]

/-- The two scenes' words, the unit axis added and dropped again. -/
abbrev x2 : S2x16x81920.Idx → BitVec 32 :=
  shapeCast _ (broadcastInDim S2x1x16x81920 ![0, 2, 3] bcast_S2x16x81920_S2x1x16x81920_0_2_3
    (extractStridedSlice S2x16x81920 ![0, 0, 0] x slices_S12x16x81920_S2x16x81920_0_0_0)) shapeCasts_S2x1x16x81920_S2x16x81920

theorem x2_apply (b : Fin 2) (w : Fin 16) (j : Fin 81920) :
    x2 x (ix3 b w j) = x (ix3 (⟨b.val, by omega⟩ : Fin 12) w j) := by
  refine (shapeCast_apply _ _ (ix3 b w j) (ix4 b (0 : Fin 1) w j) ?_).trans ?_
  · rw [Shape.rowMajor_val_four, Shape.rowMajor_val_three]
    show ((b.val * 1 + 0) * 16 + w.val) * 81920 + j.val = (b.val * 16 + w.val) * 81920 + j.val
    omega
  · refine congrArg x (Shape.idx3_ext ?_ ?_ ?_)
    · show 0 + b.val = b.val; omega
    · show 0 + w.val = w.val; omega
    · show 0 + j.val = j.val; omega

/-! ## The whole term -/

/-- What the reference leaves, of `x` and the neighbour numbers. -/
abbrev term : S2x432x81920.Idx → BitVec 32 :=
  shapeCast _ (select (broadcastInDim S2x27x16x81920 ![0, 1, 2, 3] bcast_S2x27x1x81920_S2x27x16x81920_0_1_2_3
      (broadcastInDim S2x27x1x81920 ![0, 1, 3] bcast_S2x27x81920_S2x27x1x81920_0_1_3
        (cmpi .sge (nb2 nb) (broadcastInDim S2x27x81920 ![] bcast_S_S2x27x81920 (constantI S_ 32 0#32)))))
    (Host.gather gd (x2 x) (st nb))
    (broadcastInDim S2x27x16x81920 ![] bcast_S_S2x27x16x81920 (constantI S_ 32 0#32))) shapeCasts_S2x27x16x81920_S2x432x81920

/-- A word of the reference before its last reshape. -/
theorem word_apply (hn : InScene (F := Bits) nb) (b : Fin 2) (k : Fin 27) (w : Fin 16) (j : Fin 81920) :
    (if BitVec.ofBool ((0#32).sle (nb (ix3 (⟨b.val, by omega⟩ : Fin 12) k j))) = 1
      then Host.gather gd (x2 x) (st nb) (ix4 b k w j) else 0#32)
      = word (F := Bits) x b w (nb (ix3 (⟨b.val, by omega⟩ : Fin 12) k j)).toNat := by
  rw [gather_apply, x2_apply]
  have hst := st_apply nb b k j
  have hb := hn (ix3 (⟨b.val, by omega⟩ : Fin 12) k j)
  generalize nb (ix3 (⟨b.val, by omega⟩ : Fin 12) k j) = n at hst hb ⊢
  unfold word
  by_cases h : n.slt 0#32 = true
  · have hlt : ¬ n.toNat < 81920 := by
      simp only [BitVec.slt, decide_eq_true_eq, BitVec.toInt_eq_toNat_cond] at h
      have := n.isLt
      simp at h
      omega
    rw [dif_neg hlt, if_neg]
    have : (0#32).sle n = false := by
      simp only [BitVec.slt, BitVec.sle, decide_eq_true_eq, decide_eq_false_iff_not] at h ⊢; omega
    rw [this]; decide
  · have hlt : n.toNat < 81920 := hb.resolve_left h
    have hge : (0#32).sle n = true := by
      simp only [BitVec.slt, BitVec.sle, decide_eq_true_eq] at h ⊢; omega
    have hi : n.toInt = n.toNat := by
      rw [BitVec.toInt_eq_toNat_cond, if_pos (by omega)]
    have hmax : (IntOp.maxsi n 0#32).toInt.toNat = n.toNat := by
      unfold IntOp.maxsi
      split
      · rw [hi]; rfl
      · rename_i h0
        simp only [BitVec.slt, decide_eq_true_eq] at h0
        rw [hi] at h0
        simp at h0 ⊢
        omega
    rw [dif_pos hlt, hge, if_pos (by decide)]
    refine congrArg x (Shape.idx3_ext rfl rfl ?_)
    show min (st nb (ix4 b k j (0 : Fin 1))).toInt.toNat 81919 = n.toNat
    rw [hst, hmax]
    omega

/-- THE REFERENCE'S VALUE: the gathered words, when every number is negative or a voxel's. -/
theorem term_eq (hn : InScene (F := Bits) nb) : term x nb = gathered (F := Bits) x nb := by
  funext i
  have h0 : (i 0).val < 2 := (i 0).isLt
  have h1 : (i 1).val < 432 := (i 1).isLt
  have h2 : (i 2).val < 81920 := (i 2).isLt
  refine (shapeCast_apply _ _ i (ix4 (⟨(i 0).val, h0⟩ : Fin 2) (⟨(i 1).val / 16, by omega⟩ : Fin 27)
    (⟨(i 1).val % 16, by omega⟩ : Fin 16) (⟨(i 2).val, h2⟩ : Fin 81920)) ?_).trans ?_
  · rw [Shape.rowMajor_val_four, Shape.rowMajor_val_three]
    show (((i 0).val * 27 + (i 1).val / 16) * 16 + (i 1).val % 16) * 81920 + (i 2).val = ((i 0).val * 432 + (i 1).val) * 81920 + (i 2).val
    omega
  · refine Eq.trans ?_ (word_apply x nb hn ⟨(i 0).val, h0⟩ ⟨(i 1).val / 16, by omega⟩ ⟨(i 1).val % 16, by omega⟩ ⟨(i 2).val, h2⟩)
    rw [← nb2_apply nb ⟨(i 0).val, h0⟩ ⟨(i 1).val / 16, by omega⟩ ⟨(i 2).val, h2⟩]
    refine congrArg (fun c : BitVec 1 => if c = 1 then Host.gather gd (x2 x) (st nb) _ else (0#32)) ?_
    rw [bcast_rows, bcast_unit]
    rfl

end Cert.Proof.GatherRef

end
-- ==== Proof.Bytes.lean ====
/-
  A 32-bit word read as four 8-bit codes, at an index: row `k` of the reinterpreted array is byte `k % 4` of row
  `k / 4` of the words, the other coordinates kept. At the ideal instance the code is the extended real its fp8 pattern
  denotes (`code`).
-/
module

public import Idealize.ShloMosaic.Lib.BitcastPair
public import Idealize.ShloMosaic.Lib.Pointwise

@[expose] public section

noncomputable section

namespace Cert.Proof

open Idealize.ShloMosaic

/-- Code `b` (0 the lowest byte) of a word, as the extended real its fp8 pattern denotes. -/
def code (w : BitVec 32) (b : ℕ) : EReal := Ideal.ofBits .fp8e4m3 (w.extractLsb' (8 * b) 8)

/-- Thirty-two-bit words read at eight bits: result row `r` of a column is byte `r % 4` of source row `r / 4`. -/
theorem bitcast_32_8 {s t : Shape} (x : s.Idx → BitVec 32) (h : s.Bitcasts 32 t 8) (j : t.Idx) (p : ℕ) (hp : t.row j / 4 = p)
    (hlt : ∀ a : Fin s.rank, a.val + 2 = s.rank → p < s.size a) :
    bitcast t 8 x h j = (x (h.srcIdx j p hlt)).extractLsb' (8 * (t.row j % 4)) 8 := by
  apply BitVec.eq_of_getLsbD_eq
  intro i hi
  rw [bitcast_getLsbD x h j i hi (by decide), BitVec.getLsbD_extractLsb']
  have ep : (t.row j * 8 + i) / 32 = p := by omega
  have eq : (t.row j * 8 + i) % 32 = 8 * (t.row j % 4) + i := by omega
  rw [h.srcIdx_congr j ep _ hlt, eq]
  simp [hi]

/-- The rows of words `x : [r, n]` as fp8 codes `[4r, n]`, at row `k` and column `l`. -/
theorem codes_ix2 {R r n : ℕ} (x : (⟨2, ![r, n]⟩ : Shape).Idx → BitVec 32) (h : (⟨2, ![r, n]⟩ : Shape).Bitcasts 32 ⟨2, ![R, n]⟩ 8)
    (k : Fin R) (l : Fin n) (hk : k.val / 4 < r) :
    Ideal.ofBits .fp8e4m3 (bitcast ⟨2, ![R, n]⟩ 8 x h (ix2 k l)) = code (x (ix2 ⟨k.val / 4, hk⟩ l)) (k.val % 4) := by
  unfold code
  rw [bitcast_32_8 x h (ix2 k l) (k.val / 4) rfl (fun a ha => by
    have : a = 0 := Fin.ext (by simpa using ha)
    subst this; exact hk)]
  congr 2
  congr 1
  funext a
  match a with
  | ⟨0, _⟩ => rfl
  | ⟨1, _⟩ => rfl

/-- The same of a stack `[b, r, n]` of word arrays. -/
theorem codes_ix3 {b R r n : ℕ} (x : (⟨3, ![b, r, n]⟩ : Shape).Idx → BitVec 32)
    (h : (⟨3, ![b, r, n]⟩ : Shape).Bitcasts 32 ⟨3, ![b, R, n]⟩ 8) (i : Fin b) (k : Fin R) (l : Fin n) (hk : k.val / 4 < r) :
    Ideal.ofBits .fp8e4m3 (bitcast ⟨3, ![b, R, n]⟩ 8 x h (ix3 i k l))
      = code (x (ix3 i ⟨k.val / 4, hk⟩ l)) (k.val % 4) := by
  unfold code
  rw [bitcast_32_8 x h (ix3 i k l) (k.val / 4) rfl (fun a ha => by
    have : a = 1 := Fin.ext (by simpa using ha)
    subst this; exact hk)]
  congr 2
  congr 1
  funext a
  match a with
  | ⟨0, _⟩ => rfl
  | ⟨1, _⟩ => rfl
  | ⟨2, _⟩ => rfl

/-- The product's result at an index, over the argument arrays (gathered words `[2, 432, 81920]`, scale, codes, weight
    scales, bias): scene `s`, channel `c`, voxel `v`. -/
def val (g : Vec Ideal ⟨3, ![2, 432, 81920]⟩ .i32) (xs : Vec Ideal ⟨1, ![1]⟩ .f32) (w : Vec Ideal ⟨3, ![27, 64, 96]⟩ .fp8e4m3) (ws : Vec Ideal ⟨2, ![27, 96]⟩ .f32)
    (b : Vec Ideal ⟨1, ![96]⟩ .f32) (s : Fin 2) (c : Fin 96) (v : Fin 81920) : EReal :=
  (∑ k : Fin 1728, w (ix3 ⟨k.val / 64, by omega⟩ ⟨k.val % 64, by omega⟩ c) * ws (ix2 ⟨k.val / 64, by omega⟩ c)
    * code (g (ix3 s ⟨k.val / 4, by omega⟩ v)) (k.val % 4)) * xs (ix1 0) + b (ix1 c)

end Cert.Proof

end
-- ==== Proof.Body.lean ====
/-
  The body of one call of the product, run over any staging buffers: the first point of the grid writes the effective
  weights into the scratch, and every point writes its block of the result from them.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Tactic
public import Idealize.ShloMosaic.Lib.VecWindow
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken at the first point of the grid. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32))) 0#32 = 1#1

/-- … which is point zero. -/
theorem first_iff : ∀ t : Fin grid0.N, first (grid0.coords t) ↔ t.val = 0 := fun t => by
  have ht : t.val < 40 := Nat.lt_of_lt_of_eq t.isLt N_0
  have e0 : (grid0.coords t 0).val = t.val / 20 % 2 := Pipeline.Grid.coords_val t 0 (by decide) rfl
  have e1 : (grid0.coords t 1).val = t.val / 1 % 20 := Pipeline.Grid.coords_val t 1 (by decide) rfl
  have h : first (grid0.coords t) ↔ t.val % 40 = 0 := by
    simp only [first, e0, e1]
    word_cmp
  exact h.trans ⟨fun e => by omega, fun e => by omega⟩

/-- The one-element scale, loaded. -/
theorem scale_load (x : Vec F S1 .f32) {inb} {hn} :
    View.ld x (Rect.unit (s := S1) ![0] ![1] inb) (Shape.Idx.first hn) = x (ix1 0) := by
  refine congrArg x (funext fun a => ?_)
  match a with
  | ⟨0, _⟩ => exact Subsingleton.elim (α := Fin 1) _ _

/-- The first point: whatever the scratch held, it ends at the effective weights. -/
theorem run_first (c : Dev nD) (i : grid0.Coords)
    (arg2 : Memref sig .tc .vmem S1x432x4096 .i32) (harg2 : arg2.IsWhole) (arg3 : Memref sig .tc .vmem S96x1728 .fp8e4m3) (harg3 : arg3.IsWhole)
    (arg4 : Memref sig .tc .vmem S96x1728 .f32) (harg4 : arg4.IsWhole) (arg5 : Memref sig .tc .smem S1 .f32) (harg5 : arg5.IsWhole)
    (arg6 : Memref sig .tc .vmem S96x1 .f32) (harg6 : arg6.IsWhole) (arg7 : Memref sig .tc .vmem S1x96x4096 .f32) (harg7 : arg7.IsWhole)
    (arg8 : Memref sig .tc .vmem S96x1728 .bf16) (harg8 : arg8.IsWhole)
    (hc : first i) (x0 : Vec F S1x432x4096 .i32) (x1 : Vec F S96x1728 .fp8e4m3) (x2 : Vec F S96x1728 .f32) (x3 : Vec F S1 .f32)
    (x4 : Vec F S96x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare (k0_pay2 x0 (k0_pay1 x1 x2) (x3 (ix1 0)) x4)
        ∗ owns (c : Thread nD τ) arg8 fullShare (k0_pay1 x1 x2)) -∗ K ⟨⟩))
      ⊢ wp frame (wpE (defs₀ (F := F)) Variants.none c none) E
          (cc0_matmul_0 i arg2 harg2 arg3 harg3 arg4 harg4 arg5 harg5 arg6 harg6 arg7 harg7 arg8 harg8) K := by
  simp only [cc0_matmul_0_eq_skeleton]; unfold cc0_matmul_0_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    frame_out
    rw [scale_load]
  iexists _; isplitr; swap; · iexact HS
  ipureintro
  refine (View.read_writes_full _ _ _ _ _).trans ?_
  frame_out

/-- A later point: the scratch, which holds the weights `ws`, keeps them. -/
theorem run_later (c : Dev nD) (i : grid0.Coords)
    (arg2 : Memref sig .tc .vmem S1x432x4096 .i32) (harg2 : arg2.IsWhole) (arg3 : Memref sig .tc .vmem S96x1728 .fp8e4m3) (harg3 : arg3.IsWhole)
    (arg4 : Memref sig .tc .vmem S96x1728 .f32) (harg4 : arg4.IsWhole) (arg5 : Memref sig .tc .smem S1 .f32) (harg5 : arg5.IsWhole)
    (arg6 : Memref sig .tc .vmem S96x1 .f32) (harg6 : arg6.IsWhole) (arg7 : Memref sig .tc .vmem S1x96x4096 .f32) (harg7 : arg7.IsWhole)
    (arg8 : Memref sig .tc .vmem S96x1728 .bf16) (harg8 : arg8.IsWhole)
    (hc : ¬first i) (x0 : Vec F S1x432x4096 .i32) (x1 : Vec F S96x1728 .fp8e4m3) (x2 : Vec F S96x1728 .f32) (x3 : Vec F S1 .f32)
    (x4 : Vec F S96x1 .f32) (ws : Vec F S96x1728 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare ws
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare (k0_pay2 x0 (ws) (x3 (ix1 0)) x4)
        ∗ owns (c : Thread nD τ) arg8 fullShare (ws)) -∗ K ⟨⟩))
      ⊢ wp frame (wpE (defs₀ (F := F)) Variants.none c none) E
          (cc0_matmul_0 i arg2 harg2 arg3 harg3 arg4 harg4 arg5 harg5 arg6 harg6 arg7 harg7 arg8 harg8) K := by
  simp only [cc0_matmul_0_eq_skeleton]; unfold cc0_matmul_0_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg8.eq_unread hfs
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    frame_out
    rw [scale_load]
  iexists _; isplitr; swap; · iexact HS
  ipureintro
  exact harg8.read_unread _

end Cert.KernelIdeal.Gen

end
-- ==== Proof.Call.lean ====
/-
  One call of the product over any buffers: its six windows, its configuration, and the six calls of the program as
  instances of it. They differ in the words they read, the array they write, their staging buffers and scratch, and the
  scene at which their output's blocks start.
-/
module

public import proofs.«01_k».proof.Proof.Body

@[expose] public section

set_option maxRecDepth 16384

noncomputable section

namespace Cert.KernelIdeal.Gen

open Idealize.ShloMosaic Idealize.ShloMosaic.TcCoe
open Idealize.SL Idealize.SL.Sem

/-- The buffers and the output's index map of one call. -/
structure Call where
  /-- The words read, the array written, and the scratch's buffer. -/
  g : Memref sig .tc .hbm S2x432x81920 .i32
  hg : g.IsWhole
  y : Memref sig .tc .hbm S12x96x81920 .f32
  hy : y.IsWhole
  st0 : Fin 2 → Memref sig .tc .vmem S1x432x4096 .i32
  hst0 : ∀ j, (st0 j).IsWhole
  st1 : Fin 1 → Memref sig .tc .vmem S96x1728 .fp8e4m3
  hst1 : ∀ j, (st1 j).IsWhole
  st2 : Fin 1 → Memref sig .tc .vmem S96x1728 .f32
  hst2 : ∀ j, (st2 j).IsWhole
  st3 : Fin 1 → Memref sig .tc .smem S1 .f32
  hst3 : ∀ j, (st3 j).IsWhole
  st4 : Fin 1 → Memref sig .tc .vmem S96x1 .f32
  hst4 : ∀ j, (st4 j).IsWhole
  st5 : Fin 2 → Memref sig .tc .vmem S1x96x4096 .f32
  hst5 : ∀ j, (st5 j).IsWhole
  sm0 : Fin 2 → DmaSem sig
  sm1 : Fin 1 → DmaSem sig
  sm2 : Fin 1 → DmaSem sig
  sm3 : Fin 1 → DmaSem sig
  sm4 : Fin 1 → DmaSem sig
  sm5 : Fin 2 → DmaSem sig
  sr : Ref sig .tc
  scr : Memref sig .tc .vmem S96x1728 .bf16
  hscr : scr.IsWhole
  ix : grid0.Coords → Fin 3 → Nat
  hreads : ∀ i i' : grid0.Coords, (∀ a, reads0_5 a = true → i a = i' a) → ix i = ix i'
  hinb : ∀ (i : grid0.Coords) a, (ix i a + 1) * S1x96x4096.size a ≤ S12x96x81920.size a
  hwx : ∀ i : grid0.Coords, EltTy.bits .f32 = 32 ∨ (Rect.block (s := S12x96x81920) S1x96x4096.size (ix i) (hinb i)).WholeWords (EltTy.packing .f32)

namespace Call

variable (k : Call)

/-- The gathered words, a block of 4096 columns of one scene at a time. -/
abbrev win0 : Pipeline.Window sig grid0 :=
  Pipeline.Window.ofSpec k.g S1x432x4096.size cc0_transform_0 reads0_0 false false 2 k.st0 k.sm0
    hrank0 hreads0_0 hinb0_0 nbuf0_0 k.hg hwx0_0 k.hst0
/-- The weights' codes, -/
abbrev win1 : Pipeline.Window sig grid0 :=
  Pipeline.Window.ofSpec (Memref.whole main_v1) S96x1728.size cc0_transform_1 reads0_1 false true 1 k.st1 k.sm1
    hrank0 hreads0_1 hinb0_1 nbuf0_1 (Memref.isWhole_whole _) hwx0_1 k.hst1
/-- their scales, -/
abbrev win2 : Pipeline.Window sig grid0 :=
  Pipeline.Window.ofSpec (Memref.whole main_v4) S96x1728.size cc0_transform_2 reads0_2 false true 1 k.st2 k.sm2
    hrank0 hreads0_2 hinb0_2 nbuf0_2 (Memref.isWhole_whole _) hwx0_2 k.hst2
/-- the features' scale, -/
abbrev win3 : Pipeline.Window sig grid0 :=
  Pipeline.Window.ofSpec (Memref.whole main_arg6) S1.size cc0_transform_3 reads0_3 false false 1 k.st3 k.sm3
    hrank0 hreads0_3 hinb0_3 nbuf0_3 (Memref.isWhole_whole _) hwx0_3 k.hst3
/-- the bias, -/
abbrev win4 : Pipeline.Window sig grid0 :=
  Pipeline.Window.ofSpec (Memref.whole main_v5) S96x1.size cc0_transform_4 reads0_4 false true 1 k.st4 k.sm4
    hrank0 hreads0_4 hinb0_4 nbuf0_4 (Memref.isWhole_whole _) hwx0_4 k.hst4
/-- and the result, a block of 4096 columns of one scene at a time. -/
abbrev win5 : Pipeline.Window sig grid0 :=
  Pipeline.Window.ofSpec k.y S1x96x4096.size k.ix reads0_5 true false 2 k.st5 k.sm5
    hrank0 k.hreads k.hinb nbuf0_5 k.hy k.hwx k.hst5

/-- The windows. -/
abbrev win : Fin 6 → Pipeline.Window sig grid0 :=
  fun | 0 => k.win0 | 1 => k.win1 | 2 => k.win2 | 3 => k.win3 | 4 => k.win4 | 5 => k.win5 | ⟨_ + 6, h⟩ => absurd h (Nat.not_lt.2 (Nat.le_add_left _ _))

/-- The call's configuration, its body the row `b` of the body table. -/
abbrev cfg (b : Λ₀.Label) (args : Fin grid0.N → ((w : Fin 6) → Fin (k.win w).nbuf) → Λ₀.Args b) : Pipeline.Cfg sig Λ₀ where
  grid := grid0
  W := 6
  win := k.win
  body := b
  bodyArgs := args

end Call

/-- The first call. -/
abbrev k0 : Call :=
  { g := Memref.whole main_arg0, hg := Memref.isWhole_whole _, y := Memref.whole main_v6, hy := Memref.isWhole_whole _,
    st0 := stage0_0, hst0 := hstage0_0, sm0 := sem0_0, st1 := stage0_1, hst1 := hstage0_1, sm1 := sem0_1, st2 := stage0_2, hst2 := hstage0_2, sm2 := sem0_2,
    st3 := stage0_3, hst3 := hstage0_3, sm3 := sem0_3, st4 := stage0_4, hst4 := hstage0_4, sm4 := sem0_4, st5 := stage0_5, hst5 := hstage0_5, sm5 := sem0_5,
    sr := cc0_scratch0, scr := Memref.whole cc0_scratch0, hscr := Memref.isWhole_whole _,
    ix := cc0_transform_5, hreads := hreads0_5, hinb := hinb0_5, hwx := hwx0_5 }

/-- The second call. -/
abbrev k1 : Call :=
  { g := Memref.whole main_arg1, hg := Memref.isWhole_whole _, y := Memref.whole main_v7, hy := Memref.isWhole_whole _,
    st0 := stage1_0, hst0 := hstage1_0, sm0 := sem1_0, st1 := stage1_1, hst1 := hstage1_1, sm1 := sem1_1, st2 := stage1_2, hst2 := hstage1_2, sm2 := sem1_2,
    st3 := stage1_3, hst3 := hstage1_3, sm3 := sem1_3, st4 := stage1_4, hst4 := hstage1_4, sm4 := sem1_4, st5 := stage1_5, hst5 := hstage1_5, sm5 := sem1_5,
    sr := cc1_scratch0, scr := Memref.whole cc1_scratch0, hscr := Memref.isWhole_whole _,
    ix := cc1_transform_6, hreads := hreads1_5, hinb := hinb1_5, hwx := hwx1_5 }

/-- The third call. -/
abbrev k2 : Call :=
  { g := Memref.whole main_arg2, hg := Memref.isWhole_whole _, y := Memref.whole main_v8, hy := Memref.isWhole_whole _,
    st0 := stage2_0, hst0 := hstage2_0, sm0 := sem2_0, st1 := stage2_1, hst1 := hstage2_1, sm1 := sem2_1, st2 := stage2_2, hst2 := hstage2_2, sm2 := sem2_2,
    st3 := stage2_3, hst3 := hstage2_3, sm3 := sem2_3, st4 := stage2_4, hst4 := hstage2_4, sm4 := sem2_4, st5 := stage2_5, hst5 := hstage2_5, sm5 := sem2_5,
    sr := cc2_scratch0, scr := Memref.whole cc2_scratch0, hscr := Memref.isWhole_whole _,
    ix := cc2_transform_6, hreads := hreads2_5, hinb := hinb2_5, hwx := hwx2_5 }

/-- The fourth call. -/
abbrev k3 : Call :=
  { g := Memref.whole main_arg3, hg := Memref.isWhole_whole _, y := Memref.whole main_v9, hy := Memref.isWhole_whole _,
    st0 := stage3_0, hst0 := hstage3_0, sm0 := sem3_0, st1 := stage3_1, hst1 := hstage3_1, sm1 := sem3_1, st2 := stage3_2, hst2 := hstage3_2, sm2 := sem3_2,
    st3 := stage3_3, hst3 := hstage3_3, sm3 := sem3_3, st4 := stage3_4, hst4 := hstage3_4, sm4 := sem3_4, st5 := stage3_5, hst5 := hstage3_5, sm5 := sem3_5,
    sr := cc3_scratch0, scr := Memref.whole cc3_scratch0, hscr := Memref.isWhole_whole _,
    ix := cc3_transform_6, hreads := hreads3_5, hinb := hinb3_5, hwx := hwx3_5 }

/-- The fifth call. -/
abbrev k4 : Call :=
  { g := Memref.whole main_arg4, hg := Memref.isWhole_whole _, y := Memref.whole main_v10, hy := Memref.isWhole_whole _,
    st0 := stage4_0, hst0 := hstage4_0, sm0 := sem4_0, st1 := stage4_1, hst1 := hstage4_1, sm1 := sem4_1, st2 := stage4_2, hst2 := hstage4_2, sm2 := sem4_2,
    st3 := stage4_3, hst3 := hstage4_3, sm3 := sem4_3, st4 := stage4_4, hst4 := hstage4_4, sm4 := sem4_4, st5 := stage4_5, hst5 := hstage4_5, sm5 := sem4_5,
    sr := cc4_scratch0, scr := Memref.whole cc4_scratch0, hscr := Memref.isWhole_whole _,
    ix := cc4_transform_6, hreads := hreads4_5, hinb := hinb4_5, hwx := hwx4_5 }

/-- The sixth call. -/
abbrev k5 : Call :=
  { g := Memref.whole main_arg5, hg := Memref.isWhole_whole _, y := Memref.whole main_v11, hy := Memref.isWhole_whole _,
    st0 := stage5_0, hst0 := hstage5_0, sm0 := sem5_0, st1 := stage5_1, hst1 := hstage5_1, sm1 := sem5_1, st2 := stage5_2, hst2 := hstage5_2, sm2 := sem5_2,
    st3 := stage5_3, hst3 := hstage5_3, sm3 := sem5_3, st4 := stage5_4, hst4 := hstage5_4, sm4 := sem5_4, st5 := stage5_5, hst5 := hstage5_5, sm5 := sem5_5,
    sr := cc5_scratch0, scr := Memref.whole cc5_scratch0, hscr := Memref.isWhole_whole _,
    ix := cc5_transform_6, hreads := hreads5_5, hinb := hinb5_5, hwx := hwx5_5 }

end Cert.KernelIdeal.Gen

end
-- ==== Proof.Point.lean ====
/-
  One call of the product at a grid point: what each window's buffer holds before and after the body, and the body's
  obligation to the pipeline, for any call.
-/
module

public import proofs.«01_k».proof.Proof.Call

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Call

variable (k : Call) {b : Λ₀.Label} {args : Fin grid0.N → ((w : Fin 6) → Fin (k.win w).nbuf) → Λ₀.Args b}
variable (W : Valuation τ sig (Elt F)) (c : Dev nD)

/-- The windows but for their index maps. -/
abbrev spec : Fin 6 → Pipeline.WinSpec sig grid0.rank := fun w => (k.win w).toWinSpec

/-- Window `w`'s block at point `t`, of its array's contents at the call's entry. -/
def blk (w : Fin 6) (t : Fin grid0.N) : ((k.win w).xblock (grid0.coords t)).Idx → Elt F (k.win w).elt :=
  ((k.win w).blk t).view.read (Elt F) (W (Proc.devRef .tc (Pipeline.arrRef k.spec w)))

/-- The first point. -/
abbrev zero : Fin grid0.N := ⟨0, by decide⟩

/-- The effective weights. -/
def weights : Vec F S96x1728 .bf16 := k0_pay1 (k.blk W 1 zero) (k.blk W 2 zero)

/-- The block of the result at point `t`. -/
def out (t : Fin grid0.N) : Vec F S1x96x4096 .f32 :=
  k0_pay2 (k.blk W 0 t) (k.weights W) ((show Vec F S1 .f32 from k.blk W 3 t) (ix1 0)) (k.blk W 4 t)

/-- The scratch before point `t` (at anything before the first), beside `rest`. -/
def inv (rest : sProp 𝕄) (n : ℕ) : sProp 𝕄 :=
  if n = 0 then iprop((∃ d, owns (c : Thread nD τ) k.scr fullShare d) ∗ rest)
  else iprop(owns (c : Thread nD τ) k.scr fullShare (k.weights W) ∗ rest)

/-- The call's proof data. -/
def dat (rest : sProp 𝕄) : Dat τ (Elt F) Unit ℕ (UR sig nD τ) ℕ (k.cfg b args) c where
  A w := W (Proc.devRef .tc (Pipeline.arrRef k.spec w))
  after w t := match w with
    | ⟨0, _⟩ => k.blk W 0 t
    | ⟨1, _⟩ => k.blk W 1 t
    | ⟨2, _⟩ => k.blk W 2 t
    | ⟨3, _⟩ => k.blk W 3 t
    | ⟨4, _⟩ => k.blk W 4 t
    | ⟨5, _⟩ => k.out W t
  Φ t := k.inv W c rest t.val
  q _ := fullShare
  owed _ := 0

theorem after0 (rest : sProp 𝕄) (t : Fin grid0.N) : (k.dat (b := b) (args := args) W c rest).after 0 t = k.blk W 0 t := rfl
theorem after1 (rest : sProp 𝕄) (t : Fin grid0.N) : (k.dat (b := b) (args := args) W c rest).after 1 t = k.blk W 1 t := rfl
theorem after2 (rest : sProp 𝕄) (t : Fin grid0.N) : (k.dat (b := b) (args := args) W c rest).after 2 t = k.blk W 2 t := rfl
theorem after3 (rest : sProp 𝕄) (t : Fin grid0.N) : (k.dat (b := b) (args := args) W c rest).after 3 t = k.blk W 3 t := rfl
theorem after4 (rest : sProp 𝕄) (t : Fin grid0.N) : (k.dat (b := b) (args := args) W c rest).after 4 t = k.blk W 4 t := rfl
theorem after5 (rest : sProp 𝕄) (t : Fin grid0.N) : (k.dat (b := b) (args := args) W c rest).after 5 t = k.out W t := rfl

theorem A_eq (rest : sProp 𝕄) (w : Fin 6) : (k.dat (b := b) (args := args) W c rest).A w = W (Proc.devRef .tc (Pipeline.arrRef k.spec w)) := rfl

theorem before0 (rest : sProp 𝕄) (t : Fin grid0.N) (d) : (k.dat (b := b) (args := args) W c rest).before 0 t d = k.blk W 0 t :=
  ((k.dat (b := b) (args := args) W c rest).before_in_eq_fetched 0 rfl (fun _ => rfl) (fun _ _ _ => rfl) (fun t => by rw [after0]; unfold Dat.blockOf blk; rw [A_eq]; rfl) t d).trans
    (by unfold Dat.fetched Dat.blockOf blk; rw [A_eq]; rfl)
theorem before1 (rest : sProp 𝕄) (t : Fin grid0.N) (d) : (k.dat (b := b) (args := args) W c rest).before 1 t d = k.blk W 1 t :=
  ((k.dat (b := b) (args := args) W c rest).before_in_eq_fetched 1 rfl (fun _ => rfl) (fun _ _ _ => rfl) (fun t => by rw [after1]; unfold Dat.blockOf blk; rw [A_eq]; rfl) t d).trans
    (by unfold Dat.fetched Dat.blockOf blk; rw [A_eq]; rfl)
theorem before2 (rest : sProp 𝕄) (t : Fin grid0.N) (d) : (k.dat (b := b) (args := args) W c rest).before 2 t d = k.blk W 2 t :=
  ((k.dat (b := b) (args := args) W c rest).before_in_eq_fetched 2 rfl (fun _ => rfl) (fun _ _ _ => rfl) (fun t => by rw [after2]; unfold Dat.blockOf blk; rw [A_eq]; rfl) t d).trans
    (by unfold Dat.fetched Dat.blockOf blk; rw [A_eq]; rfl)
theorem before3 (rest : sProp 𝕄) (t : Fin grid0.N) (d) : (k.dat (b := b) (args := args) W c rest).before 3 t d = k.blk W 3 t :=
  ((k.dat (b := b) (args := args) W c rest).before_in_eq_fetched 3 rfl (fun _ => rfl) (fun _ _ _ => rfl) (fun t => by rw [after3]; unfold Dat.blockOf blk; rw [A_eq]; rfl) t d).trans
    (by unfold Dat.fetched Dat.blockOf blk; rw [A_eq]; rfl)
theorem before4 (rest : sProp 𝕄) (t : Fin grid0.N) (d) : (k.dat (b := b) (args := args) W c rest).before 4 t d = k.blk W 4 t :=
  ((k.dat (b := b) (args := args) W c rest).before_in_eq_fetched 4 rfl (fun _ => rfl) (fun _ _ _ => rfl) (fun t => by rw [after4]; unfold Dat.blockOf blk; rw [A_eq]; rfl) t d).trans
    (by unfold Dat.fetched Dat.blockOf blk; rw [A_eq]; rfl)

/-- The weights' blocks are the same at every point. -/
theorem weights_eq (t : Fin grid0.N) : k0_pay1 (k.blk W 1 t) (k.blk W 2 t) = k.weights W := rfl

/-- The body table's row is the product's body on this call's buffers. -/
abbrev Row (k : Call) (b : Λ₀.Label) (args : Fin grid0.N → ((w : Fin 6) → Fin (k.win w).nbuf) → Λ₀.Args b) : Prop :=
  ∀ (t : Fin grid0.N) (s : (w : Fin 6) → Fin (k.win w).nbuf), defs₀ (F := F) .tc b (args t s)
    = cc0_matmul_0 (grid0.coords t) (k.st0 (s 0)) (k.hst0 _) (k.st1 (s 1)) (k.hst1 _) (k.st2 (s 2)) (k.hst2 _)
        (k.st3 (s 3)) (k.hst3 _) (k.st4 (s 4)) (k.hst4 _) (k.st5 (s 5)) (k.hst5 _) k.scr k.hscr

/-- Before the first point the scratch is at anything, -/
theorem inv_zero (rest : sProp 𝕄) : k.inv W c rest 0 = iprop((∃ d, owns (c : Thread nD τ) k.scr fullShare d) ∗ rest) := rfl

/-- later at the effective weights. -/
theorem inv_pos (rest : sProp 𝕄) (n : ℕ) (h : n ≠ 0) : k.inv W c rest n = iprop(owns (c : Thread nD τ) k.scr fullShare (k.weights W) ∗ rest) :=
  if_neg h

/-- What the body is called with at point `t`, on the buffers `s`, -/
def pre (b : Λ₀.Label) (args : Fin grid0.N → ((w : Fin 6) → Fin (k.win w).nbuf) → Λ₀.Args b) (rest : sProp 𝕄) (O : sProp 𝕄) (t : Fin grid0.N) (s : (w : Fin 6) → Fin (k.win w).nbuf) : sProp 𝕄 :=
  iprop(k.inv W c rest t.val ∗ O
    ∗ (∃ d, owns (c : Thread nD τ) (k.st0 (s 0)) fullShare ((k.dat (b := b) (args := args) W c rest).before 0 t d))
    ∗ (∃ d, owns (c : Thread nD τ) (k.st1 (s 1)) fullShare ((k.dat (b := b) (args := args) W c rest).before 1 t d))
    ∗ (∃ d, owns (c : Thread nD τ) (k.st2 (s 2)) fullShare ((k.dat (b := b) (args := args) W c rest).before 2 t d))
    ∗ (∃ d, owns (c : Thread nD τ) (k.st3 (s 3)) fullShare ((k.dat (b := b) (args := args) W c rest).before 3 t d))
    ∗ (∃ d, owns (c : Thread nD τ) (k.st4 (s 4)) fullShare ((k.dat (b := b) (args := args) W c rest).before 4 t d))
    ∗ (∃ d, owns (c : Thread nD τ) (k.st5 (s 5)) fullShare ((k.dat (b := b) (args := args) W c rest).before 5 t d)))

/-- and what it returns. -/
def post (b : Λ₀.Label) (args : Fin grid0.N → ((w : Fin 6) → Fin (k.win w).nbuf) → Λ₀.Args b) (rest : sProp 𝕄) (O : sProp 𝕄) (t : Fin grid0.N) (s : (w : Fin 6) → Fin (k.win w).nbuf) : sProp 𝕄 :=
  iprop(k.inv W c rest (t.val + 1) ∗ O
    ∗ owns (c : Thread nD τ) (k.st0 (s 0)) fullShare ((k.dat (b := b) (args := args) W c rest).after 0 t)
    ∗ owns (c : Thread nD τ) (k.st1 (s 1)) fullShare ((k.dat (b := b) (args := args) W c rest).after 1 t)
    ∗ owns (c : Thread nD τ) (k.st2 (s 2)) fullShare ((k.dat (b := b) (args := args) W c rest).after 2 t)
    ∗ owns (c : Thread nD τ) (k.st3 (s 3)) fullShare ((k.dat (b := b) (args := args) W c rest).after 3 t)
    ∗ owns (c : Thread nD τ) (k.st4 (s 4)) fullShare ((k.dat (b := b) (args := args) W c rest).after 4 t)
    ∗ owns (c : Thread nD τ) (k.st5 (s 5)) fullShare ((k.dat (b := b) (args := args) W c rest).after 5 t))

set_option maxHeartbeats 800000 in
/-- The body at any point. -/
theorem sound (rest O : sProp 𝕄) (t : Fin grid0.N) (s : (w : Fin 6) → Fin (k.win w).nbuf) :
    k.pre W c b args rest O t s ⊢ wp frame (wpE (defs₀ (F := F)) Variants.none c none) Set.univ
      (cc0_matmul_0 (grid0.coords t) (k.st0 (s 0)) (k.hst0 _) (k.st1 (s 1)) (k.hst1 _) (k.st2 (s 2)) (k.hst2 _)
        (k.st3 (s 3)) (k.hst3 _) (k.st4 (s 4)) (k.hst4 _) (k.st5 (s 5)) (k.hst5 _) k.scr k.hscr) (fun _ => k.post W c b args rest O t s) := by
  unfold pre post
  simp only [before0, before1, before2, before3, before4]
  rw [after0, after1, after2, after3, after4, after5]
  rw [inv_pos k W c rest (t.val + 1) (Nat.succ_ne_zero _)]
  by_cases h : t.val = 0
  · rw [h, inv_zero]
    iintro ⟨⟨HS, Hr⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ ((first_iff t).mpr h) (k.blk W 0 t) (k.blk W 1 t) (k.blk W 2 t) (k.blk W 3 t) (k.blk W 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [inv_pos k W c rest t.val h]
    iintro ⟨⟨HS, Hr⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun e => h ((first_iff t).mp e)) (k.blk W 0 t) (k.blk W 1 t) (k.blk W 2 t) (k.blk W 3 t) (k.blk W 4 t) (k.weights W) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    iexact H5

/-- The invariant at a point's start. -/
theorem Φ_castSucc (rest : sProp 𝕄) (t : Fin grid0.N) : (k.dat (b := b) (args := args) W c rest).Φ t.castSucc = k.inv W c rest t.val := by
  dsimp only [dat]; exact Dat.Φ_castSucc (fun n _ => k.inv W c rest n) t

/-- The body's obligation to the pipeline, at every point. -/
theorem obligation (hrow : Row (F := F) k b args) (rest : sProp 𝕄) :
    BodyObligation (k.dat (b := b) (args := args) W c rest) (defs₀ (F := F)) Variants.none () Set.univ := fun t => by
  rw [bigSep_W0, bigSep_W0, Φ_castSucc]
  rw [show defs₀ (F := F) .tc (k.cfg b args).body ((k.cfg b args).bodyArgs t ((k.cfg b args).slots t)) = _ from hrow t _]
  exact triple_restated (k.sound W c rest ((k.dat (b := b) (args := args) W c rest).owesAt () t.castSucc) t ((k.cfg b args).slots t)) rfl .rfl fun _ => .rfl

/-- The scoped buffers but for the call's staging buffers and its scratch. -/
abbrev rest : sProp 𝕄 := Pipeline.scopedRestBut (Ix := Unit) (Name := ℕ) (U := UR sig nD τ) (Lvl := ℕ) (Val := Elt F) k.spec c [k.sr]

end Call

/-- The rows of the body table. -/
theorem row0 : Call.Row (F := F) k0 0 fun t s => (t, s) := fun t s => by unfold defs₀; rw [Defs.onTc_tc]
theorem row1 : Call.Row (F := F) k1 1 fun t s => (t, s) := fun t s => by unfold defs₀; rw [Defs.onTc_tc]; rfl
theorem row2 : Call.Row (F := F) k2 2 fun t s => (t, s) := fun t s => by unfold defs₀; rw [Defs.onTc_tc]; rfl
theorem row3 : Call.Row (F := F) k3 3 fun t s => (t, s) := fun t s => by unfold defs₀; rw [Defs.onTc_tc]; rfl
theorem row4 : Call.Row (F := F) k4 4 fun t s => (t, s) := fun t s => by unfold defs₀; rw [Defs.onTc_tc]; rfl
theorem row5 : Call.Row (F := F) k5 5 fun t s => (t, s) := fun t s => by unfold defs₀; rw [Defs.onTc_tc]; rfl

end Cert.KernelIdeal.Gen

end
-- ==== Proof.Chain.lean ====
/-
  The chain of the six calls: the buffers' contents between the items of the program, each call's proof data at the
  contents it is entered with, and each call as a segment of the run.
-/
module

public import proofs.«01_k».proof.Proof.Point
public import proofs.«01_k».proof.Proof.Gen.KernelIdeal.Regions
public import Idealize.ShloMosaic.Lib.Pipeline.RegionArraysS

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)

variable {F : FTy → Type} [FloatOps F]

local notation "𝕄" => MT nD τ sig Unit (Elt F) ℕ (UR sig nD τ) ℕ

namespace Call

variable (k : Call) {b : Λ₀.Label} {args : Fin grid0.N → ((w : Fin 6) → Fin (k.win w).nbuf) → Λ₀.Args b}
variable (W : Valuation τ sig (Elt F)) (c : Dev nD)

/-- The buffers after the call, from those at its entry. -/
def exit (b : Λ₀.Label) (args : Fin grid0.N → ((w : Fin 6) → Fin (k.win w).nbuf) → Λ₀.Args b) : Valuation τ sig (Elt F) :=
  Pipeline.afterRegion (k.dat (b := b) (args := args) W c (k.rest c)) W

/-- Every buffer but the array it writes is left as it was. -/
theorem exit_of (hinj : Function.Injective (Pipeline.arrRef k.spec)) (d : DevRef τ sig)
    (h : d ≠ Proc.devRef .tc (Pipeline.arrRef k.spec 5)) : k.exit W c b args d = W d := by
  by_cases hw : ∃ w, d = Proc.devRef .tc (Pipeline.arrRef k.spec w)
  · obtain ⟨w, rfl⟩ := hw
    refine Pipeline.afterRegion_keeps _ W hinj (fun w => A_eq k W c (k.rest c) w) _ fun w' e => ?_
    match w' with
    | 0 => rfl
    | 1 => rfl
    | 2 => rfl
    | 3 => rfl
    | 4 => rfl
    | 5 => exact absurd (congrArg (Proc.devRef .tc) e.symm) h
  · unfold exit Pipeline.afterRegion
    exact dif_neg hw

/-- What the launch hands the call is the invariant before the first point, -/
theorem enter (hs : (Pipeline.scopedRest (Ix := Unit) (Name := ℕ) (U := UR sig nD τ) (Lvl := ℕ) (Val := Elt F) k.spec c : sProp 𝕄)
      = iprop((∃ d, owns (c : Thread nD τ) k.scr fullShare d) ∗ k.rest c)) :
    iprop((Pipeline.scopedRest k.spec c : sProp 𝕄) ∗ emp) ⊢ (k.dat (b := b) (args := args) W c (k.rest c)).Φ 0 := by
  show _ ⊢ k.inv W c (k.rest c) 0
  rw [inv_zero, hs]
  iintro ⟨H, -⟩
  iexact H

/-- and the invariant after the last gives it back. -/
theorem leave (hs : (Pipeline.scopedRest (Ix := Unit) (Name := ℕ) (U := UR sig nD τ) (Lvl := ℕ) (Val := Elt F) k.spec c : sProp 𝕄)
      = iprop((∃ d, owns (c : Thread nD τ) k.scr fullShare d) ∗ k.rest c)) :
    (k.dat (b := b) (args := args) W c (k.rest c)).Φ (Fin.last grid0.N) ⊢ iprop((Pipeline.scopedRest k.spec c : sProp 𝕄) ∗ emp) := by
  show k.inv W c (k.rest c) (Fin.last grid0.N).val ⊢ _
  rw [inv_pos k W c (k.rest c) _ (by rw [Fin.val_last, N_0]; decide), hs]
  iintro ⟨HS, Hr⟩
  isplitl [HS Hr]
  · isplitl [HS]
    · iexists _; iexact HS
    iexact Hr
  iempintro

end Call

end Cert.KernelIdeal.Gen

end
-- ==== Proof.Segments.lean ====
/-
  The six calls as segments of the run, each entered with the buffers as the items before it leave them.
-/
module

public import proofs.«01_k».proof.Proof.Chain

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg cellOf)

variable {F : FTy → Type} [FloatOps F]

local notation "𝕄" => MT nD τ sig Unit (Elt F) ℕ (UR sig nD τ) ℕ

variable (m : (ℓ : Loc nD τ sig) → Buf (Elt F) ℓ)

/-- The buffers before the first call, after it, before the second, … -/
def U1 (c : Dev nD) : Valuation τ sig (Elt F) := StableHlo.after hostOps0 fun b => m (c, b)
def U2 (c : Dev nD) : Valuation τ sig (Elt F) := k0.exit (U1 m c) c 0 fun t s => (t, s)
def U3 (c : Dev nD) : Valuation τ sig (Elt F) := StableHlo.after hostOps1 (U2 m c)
def U4 (c : Dev nD) : Valuation τ sig (Elt F) := k1.exit (U3 m c) c 1 fun t s => (t, s)
def U5 (c : Dev nD) : Valuation τ sig (Elt F) := StableHlo.after hostOps2 (U4 m c)
def U6 (c : Dev nD) : Valuation τ sig (Elt F) := k2.exit (U5 m c) c 2 fun t s => (t, s)
def U7 (c : Dev nD) : Valuation τ sig (Elt F) := StableHlo.after hostOps3 (U6 m c)
def U8 (c : Dev nD) : Valuation τ sig (Elt F) := k3.exit (U7 m c) c 3 fun t s => (t, s)
def U9 (c : Dev nD) : Valuation τ sig (Elt F) := StableHlo.after hostOps4 (U8 m c)
def U10 (c : Dev nD) : Valuation τ sig (Elt F) := k4.exit (U9 m c) c 4 fun t s => (t, s)
def U11 (c : Dev nD) : Valuation τ sig (Elt F) := StableHlo.after hostOps5 (U10 m c)
def U12 (c : Dev nD) : Valuation τ sig (Elt F) := k5.exit (U11 m c) c 5 fun t s => (t, s)

/-- The calls. -/
abbrev calls : Fin 6 → Call :=
  fun | 0 => k0 | 1 => k1 | 2 => k2 | 3 => k3 | 4 => k4 | 5 => k5 | ⟨_ + 6, h⟩ => absurd h (Nat.not_lt.2 (Nat.le_add_left _ _))

/-- The buffers at each call's entry, -/
abbrev entries (p : Fin 6) (c : Dev nD) : Valuation τ sig (Elt F) :=
  match p with | 0 => U1 m c | 1 => U3 m c | 2 => U5 m c | 3 => U7 m c | 4 => U9 m c | 5 => U11 m c

/-- and its exit. -/
abbrev exits (p : Fin 6) (c : Dev nD) : Valuation τ sig (Elt F) :=
  match p with | 0 => U2 m c | 1 => U4 m c | 2 => U6 m c | 3 => U8 m c | 4 => U10 m c | 5 => U12 m c

/-- Each call's proof data. -/
def pdats (p : Fin 6) (c : Dev nD) : Dat τ (Elt F) Unit ℕ (UR sig nD τ) ℕ (cfgs p) c :=
  match p with
  | 0 => k0.dat (b := 0) (args := fun t s => (t, s)) (U1 m c) c (k0.rest c)
  | 1 => k1.dat (b := 1) (args := fun t s => (t, s)) (U3 m c) c (k1.rest c)
  | 2 => k2.dat (b := 2) (args := fun t s => (t, s)) (U5 m c) c (k2.rest c)
  | 3 => k3.dat (b := 3) (args := fun t s => (t, s)) (U7 m c) c (k3.rest c)
  | 4 => k4.dat (b := 4) (args := fun t s => (t, s)) (U9 m c) c (k4.rest c)
  | 5 => k5.dat (b := 5) (args := fun t s => (t, s)) (U11 m c) c (k5.rest c)

/-- The layout of each call. -/
theorem launches (p : Fin 6) : Pipeline.LaunchFacts (nD := nD) (τ := τ) cfgs p :=
  match p with | 0 => launch0 | 1 => launch1 | 2 => launch2 | 3 => launch3 | 4 => launch4 | 5 => launch5

/-- The bodies' obligations. -/
theorem bodies (p : Fin 6) (c : Dev nD) : BodyObligationLoose (pdats m p c) (defs₀ (F := F)) Variants.none () Set.univ :=
  match p with
  | 0 => (Call.obligation k0 (U1 m c) c row0 (k0.rest c)).loose
  | 1 => (Call.obligation k1 (U3 m c) c row1 (k1.rest c)).loose
  | 2 => (Call.obligation k2 (U5 m c) c row2 (k2.rest c)).loose
  | 3 => (Call.obligation k3 (U7 m c) c row3 (k3.rest c)).loose
  | 4 => (Call.obligation k4 (U9 m c) c row4 (k4.rest c)).loose
  | 5 => (Call.obligation k5 (U11 m c) c row5 (k5.rest c)).loose

/-- The scoped buffers, the scratch apart. -/
theorem split0 (c : Dev nD) : (Pipeline.scopedRest (Ix := Unit) (Name := ℕ) (U := UR sig nD τ) (Lvl := ℕ) (Val := Elt F) k0.spec c : sProp 𝕄)
    = iprop((∃ d, owns (c : Thread nD τ) k0.scr fullShare d) ∗ k0.rest c) := by
  refine (scopedRest0_split c).trans ?_
  simp only [owns_whole]
  rfl
theorem split1 (c : Dev nD) : (Pipeline.scopedRest (Ix := Unit) (Name := ℕ) (U := UR sig nD τ) (Lvl := ℕ) (Val := Elt F) k1.spec c : sProp 𝕄)
    = iprop((∃ d, owns (c : Thread nD τ) k1.scr fullShare d) ∗ k1.rest c) := by
  refine (scopedRest1_split c).trans ?_
  simp only [owns_whole]
  rfl
theorem split2 (c : Dev nD) : (Pipeline.scopedRest (Ix := Unit) (Name := ℕ) (U := UR sig nD τ) (Lvl := ℕ) (Val := Elt F) k2.spec c : sProp 𝕄)
    = iprop((∃ d, owns (c : Thread nD τ) k2.scr fullShare d) ∗ k2.rest c) := by
  refine (scopedRest2_split c).trans ?_
  simp only [owns_whole]
  rfl
theorem split3 (c : Dev nD) : (Pipeline.scopedRest (Ix := Unit) (Name := ℕ) (U := UR sig nD τ) (Lvl := ℕ) (Val := Elt F) k3.spec c : sProp 𝕄)
    = iprop((∃ d, owns (c : Thread nD τ) k3.scr fullShare d) ∗ k3.rest c) := by
  refine (scopedRest3_split c).trans ?_
  simp only [owns_whole]
  rfl
theorem split4 (c : Dev nD) : (Pipeline.scopedRest (Ix := Unit) (Name := ℕ) (U := UR sig nD τ) (Lvl := ℕ) (Val := Elt F) k4.spec c : sProp 𝕄)
    = iprop((∃ d, owns (c : Thread nD τ) k4.scr fullShare d) ∗ k4.rest c) := by
  refine (scopedRest4_split c).trans ?_
  simp only [owns_whole]
  rfl
theorem split5 (c : Dev nD) : (Pipeline.scopedRest (Ix := Unit) (Name := ℕ) (U := UR sig nD τ) (Lvl := ℕ) (Val := Elt F) k5.spec c : sProp 𝕄)
    = iprop((∃ d, owns (c : Thread nD τ) k5.scr fullShare d) ∗ k5.rest c) := by
  refine (scopedRest5_split c).trans ?_
  simp only [owns_whole]
  rfl

/-- Each call's invariant, from what the launch hands it, -/
theorem enters (p : Fin 6) (c : Dev nD) : iprop((Pipeline.scopedRest (cfgs p).spec c : sProp 𝕄) ∗ emp) ⊢ (pdats m p c).Φ 0 :=
  match p with
  | 0 => Call.enter k0 (U1 m c) c (split0 c)
  | 1 => Call.enter k1 (U3 m c) c (split1 c)
  | 2 => Call.enter k2 (U5 m c) c (split2 c)
  | 3 => Call.enter k3 (U7 m c) c (split3 c)
  | 4 => Call.enter k4 (U9 m c) c (split4 c)
  | 5 => Call.enter k5 (U11 m c) c (split5 c)

/-- and what it gives back. -/
theorem leaves (p : Fin 6) (c : Dev nD) : (pdats m p c).Φ (Fin.last (cfgs p).N) ⊢ iprop((Pipeline.scopedRest (cfgs p).spec c : sProp 𝕄) ∗ emp) :=
  match p with
  | 0 => Call.leave k0 (U1 m c) c (split0 c)
  | 1 => Call.leave k1 (U3 m c) c (split1 c)
  | 2 => Call.leave k2 (U5 m c) c (split2 c)
  | 3 => Call.leave k3 (U7 m c) c (split3 c)
  | 4 => Call.leave k4 (U9 m c) c (split4 c)
  | 5 => Call.leave k5 (U11 m c) c (split5 c)

/-- The levels: one index at every cell of a TensorCore. -/
abbrev L : GSem nD τ sig → Finset Unit := fun g => if g.1.2 = .tc then {()} else ∅
abbrev lv : GSem nD τ sig → Unit → ℕ := fun _ _ => 0

/-- No core owes another anything. -/
theorem cut (p : Fin 6) : Pipeline.LevelCut (pcfgs (F := F)) adm () L lv p (fun _ => 0) fun _ => 0 where
  hι _ _ _ := by simp [L]
  hιb _ _ _ := Nat.le_refl _
  hD _ _ _ h := absurd h (Nat.lt_irrefl 0)

theorem owed (p : Fin 6) (c : Dev nD) (t) : (pdats m p c).owed t = 0 :=
  match p with | 0 => rfl | 1 => rfl | 2 => rfl | 3 => rfl | 4 => rfl | 5 => rfl
theorem recorded (p : Fin 6) (c : Dev nD) : (pdats m p c).recorded 0 = Set.univ :=
  match p with | 0 => rfl | 1 => rfl | 2 => rfl | 3 => rfl | 4 => rfl | 5 => rfl
theorem share (p : Fin 6) (c : Dev nD) (w) : (pdats m p c).share w = fullShare :=
  (pdats m p c).share_full (match p with | 0 => fun _ => rfl | 1 => fun _ => rfl | 2 => fun _ => rfl | 3 => fun _ => rfl | 4 => fun _ => rfl | 5 => fun _ => rfl) w
theorem entered (p : Fin 6) (c : Dev nD) (w) : (pdats m p c).arrAt w 0 = entries m p c (Proc.devRef .tc (Pipeline.arrRef (cfgs p).spec w)) :=
  match p with | 0 => rfl | 1 => rfl | 2 => rfl | 3 => rfl | 4 => rfl | 5 => rfl

/-- A call as a segment. -/
def reg (p : Fin 6) : RegionSeg (pcfgs (F := F)) adm (pdats m) () defs₀ Variants.none L lv p :=
  RegionSeg.ofHeldIn (pcfgs (F := F)) adm (pdats m) () defs₀ Variants.none L lv p (fun _ => 0) (Pipeline.ucRefs τ sig)
    (fun _ => iprop(emp)) (fun _ => iprop(emp)) (launches p).toP rfl (bodies m p) (owed m p) (recorded m p) (share m p)
    (enters m p) (leaves m p) (fun _ => 0) (cut p) (fun _ => iprop(emp)) (entries m p) (entered m p)

/-- What rides beside the buffers. -/
abbrev rides (c : Dev nD) : sProp 𝕄 := iprop(∃ Wd, owes (c : Thread nD τ) (0 : CellTallies nD τ sig Unit) Wd)

/-- Entered, -/
theorem reg_pre (p : Fin 6) (c : Dev nD) :
    iprop(StableHlo.held (c : Thread nD τ) (Pipeline.ucRefs τ sig) (entries m p c) ∗ rides c) ⊢ (reg m p).pre c := by
  refine BIBase.Entails.trans ?_ (RegionSeg.ofHeldIn_pre (Pipeline.arrRefs_sub_ucRefs _ (launches p).win.arr_unscoped) c)
  iintro ⟨H, HO⟩
  isplitl [H]; · iexact H
  isplitl [HO]; · iexact HO
  isplitl [] <;> iempintro

/-- and left. -/
theorem reg_post (p : Fin 6) (c : Dev nD) :
    (reg m p).post c ⊢ iprop(StableHlo.held (c : Thread nD τ) (Pipeline.ucRefs τ sig) (Pipeline.afterRegion (pdats m p c) (entries m p c)) ∗ rides c) := by
  refine (RegionSeg.ofHeldIn_post (Pipeline.arrRefs_sub_ucRefs _ (launches p).win.arr_unscoped) c).trans ?_
  iintro ⟨H, HO, -, -⟩
  isplitl [H]; · iexact H
  iexact HO

end Cert.KernelIdeal.Gen

end
-- ==== Proof.Run.lean ====
/-
  The run of the program: it terminates, and every buffer of a core ends at the contents the last valuation names.
-/
module

public import proofs.«01_k».proof.Proof.Segments

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A stretch of host operations from the buffers `V`. -/
abbrev stretch (ops : List (HloOp τ sig (Elt F))) (hs : ops.Forall fun op => op.bufs ⊆ StableHlo.tcRefs τ sig) (hf : ops.Forall fun op => op.fresh = ∅)
    (V : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops (fun op h => Pipeline.sub_ucRefs op ((List.forall_iff_forall_mem.mp hs) op h))
    (fun op h => (List.forall_iff_forall_mem.mp hf) op h) V rides

/-- The program's items. -/
abbrev items : List (Seg (pcfgs (F := F)) adm (pdats m) () defs₀ Variants.none L lv) :=
  [.host (stretch hostOps0 hostOps0_sub hostOps0_fresh fun c b => m (c, b)), .region (reg m 0),
   .host (stretch hostOps1 hostOps1_sub hostOps1_fresh (U2 m)), .region (reg m 1),
   .host (stretch hostOps2 hostOps2_sub hostOps2_fresh (U4 m)), .region (reg m 2),
   .host (stretch hostOps3 hostOps3_sub hostOps3_fresh (U6 m)), .region (reg m 3),
   .host (stretch hostOps4 hostOps4_sub hostOps4_fresh (U8 m)), .region (reg m 4),
   .host (stretch hostOps5 hostOps5_sub hostOps5_fresh (U10 m)), .region (reg m 5)]

set_option backward.isDefEq.respectTransparency.types false in
/-- Every run ends, with a core's buffers at the last valuation and every semaphore at zero. -/
theorem run_end (ρ : Dev nD → PrngReg) :
    θ_run defs (onTc (τ := τ) (main (F := F))) ⟨m, fun _ => 0, ρ⟩ fun r =>
      (∀ c : Dev nD, ∀ b ∈ Pipeline.ucRefs τ sig, r.2.mem (c, b) = U12 m c b) ∧ r.2.sem = fun _ => 0 := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3, Prog.lift (.customCall (Pipeline.entry 3) ()),
          StableHlo.seq hostOps4, Prog.lift (.customCall (Pipeline.entry 4) ()),
          StableHlo.seq hostOps5, Prog.lift (.customCall (Pipeline.entry 5) ()) ] from rfl]
      dsimp (config := { failIfUnchanged := false }) only
      exact .rfl)
    (fun c => by simp only [Seg.pipes_host, Seg.pipes_region, Seg.pipes_nil]; decide) 0 (fun g h => if_neg h)
    (fun _ => iprop(emp)) (initOf (Pipeline.cells cfgs cellOf_inj) (Pipeline.launchToks cfgs cellOf_inj)) ?_
    (T₀ := fun c => iprop(StableHlo.held (c : Thread nD τ) (Pipeline.ucRefs τ sig) (fun b => m (c, b)) ∗ rides c))
    (Tₙ := fun c => StableHlo.held (c : Thread nD τ) (Pipeline.ucRefs τ sig) (U12 m c))
    (hch := fun c => ⟨.rfl, reg_pre m 0 c, reg_post m 0 c, reg_pre m 1 c, reg_post m 1 c, reg_pre m 2 c, reg_post m 2 c,
      reg_pre m 3 c, reg_post m 3 c, reg_pre m 4 c, reg_post m 4 c, reg_pre m 5 c, reg_post m 5 c⟩)
    (hinit := ?_) (QY := fun c s => ∀ b ∈ Pipeline.ucRefs τ sig, s.mem (c, b) = U12 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [← Pipeline.unscopedBufs_held (Ix := Unit) (Name := ℕ) (U := UR sig nD τ) (Lvl := ℕ) c (fun b => m (c, b))]
    iintro ⟨⟨Hb, -, HO, -, -, -⟩, -⟩
    imodintro
    isplitl [Hb]; · iexact Hb
    iexists ∅
    iexact HO
  · unfold StableHlo.held
    iintro ⟨Hh, HSI⟩
    ihave Hr := (pointsTo_read_all (Pipeline.ucRefs τ sig) (fun b => ((c : Thread nD τ).1, b)) (U12 m c) s') $$ [Hh HSI]
    · isplitl [Hh] <;> iassumption
    icases Hr with ⟨%h, HSI⟩
    imodintro
    isplitr
    · ipureintro; exact h
    · iexact HSI

end Cert.KernelIdeal.Gen

end
-- ==== Proof.BlockValue.lean ====
/-
  What a call's body computes over the reals, read at an index of its block: the effective weights, and a column of the
  result.
-/
module

public import proofs.«01_k».proof.Proof.Bytes
public import proofs.«01_k».proof.Proof.Run
public import Idealize.ShloMosaic.Lib.Pipeline.ValueKit
public import Idealize.ShloMosaic.Lib.Pipeline.ReadBack

@[expose] public section

set_option maxRecDepth 16384

noncomputable section

namespace Cert.KernelIdeal.Gen
open Idealize.ShloMosaic Idealize.ShloMosaic.TcCoe Cert.Proof

/-- The effective weights at an index. -/
theorem weff_apply (w : Vec Ideal S96x1728 .fp8e4m3) (s : Vec Ideal S96x1728 .f32) (c : Fin 96) (k : Fin 1728) :
    k0_pay1 (F := Ideal) w s (ix2 c k) = w (ix2 c k) * s (ix2 c k) := by
  pointwise [k0_pay1]

/-- One element of a result block. -/
theorem pay_apply (g : Vec Ideal S1x432x4096 .i32) (w : Vec Ideal S96x1728 .bf16) (xs : Elt Ideal .f32) (b : Vec Ideal S96x1 .f32)
    (z : Fin 1) (c : Fin 96) (v : Fin 4096) :
    k0_pay2 (F := Ideal) g w xs b (ix3 z c v)
      = (∑ k : Fin 1728, w (ix2 c k) * code (g (ix3 0 ⟨k.val / 4, by omega⟩ v)) (k.val % 4)) * xs + b (ix2 c 0) := by
  unfold k0_pay2
  pointwise
  refine congrArg (· * xs + b (ix2 c 0)) (Finset.sum_congr rfl fun k _ => ?_)
  rw [codes_ix2 _ _ k v (by omega)]
  pointwise

/-- One element of the product of the words `g` with the transposed weights: scene `s` of the call's two, channel `c`,
    voxel `v`. -/
def prod (g : Vec Ideal S2x432x81920 .i32) (xs : Vec Ideal S1 .f32) (w : Vec Ideal S96x1728 .fp8e4m3) (ws : Vec Ideal S96x1728 .f32)
    (b : Vec Ideal S96x1 .f32) (s : Fin 2) (c : Fin 96) (v : Fin 81920) : EReal :=
  (∑ k : Fin 1728, w (ix2 c k) * ws (ix2 c k) * code (g (ix3 s ⟨k.val / 4, by omega⟩ v)) (k.val % 4)) * xs (ix1 0) + b (ix2 c 0)

/-- The same at an index of the result array, whose scenes `2 n` and `2 n + 1` are the two of call `n`. -/
def prodAt (g : Vec Ideal S2x432x81920 .i32) (xs : Vec Ideal S1 .f32) (w : Vec Ideal S96x1728 .fp8e4m3) (ws : Vec Ideal S96x1728 .f32)
    (b : Vec Ideal S96x1 .f32) (i : S12x96x81920.Idx) : EReal :=
  prod g xs w ws b ⟨(i 0).val % 2, Nat.mod_lt _ (by decide)⟩ (i 1) (i 2)

/-- What the call of scenes `n` and `n + 1` makes of the array `y`. -/
def left (n : ℕ) (g : Vec Ideal S2x432x81920 .i32) (xs : Vec Ideal S1 .f32) (w : Vec Ideal S96x1728 .fp8e4m3) (ws : Vec Ideal S96x1728 .f32)
    (b : Vec Ideal S96x1 .f32) (y : Vec Ideal S12x96x81920 .f32) (i : S12x96x81920.Idx) : EReal :=
  if n ≤ (i 0).val ∧ (i 0).val < n + 2 then prodAt g xs w ws b i else y i

namespace Call

variable (k : Call) (W : Valuation τ sig (Elt Ideal))

theorem idx_map : ∀ t : Fin grid0.N, cc0_transform_1 (grid0.coords t) = ![0, 0] ∧ cc0_transform_2 (grid0.coords t) = ![0, 0]
    ∧ cc0_transform_4 (grid0.coords t) = ![0, 0] := by decide +kernel

/-- The block indices of the windows held for the whole grid. -/
theorem idx (t : Fin grid0.N) : k.win1.index t = ![0, 0] ∧ k.win2.index t = ![0, 0] ∧ k.win4.index t = ![0, 0] := idx_map t

/-- The staged weights, -/
theorem blk1 (t : Fin grid0.N) (a : Fin 96) (r : Fin 1728) :
    (k.blk W 1 t : Vec Ideal S96x1728 .fp8e4m3) (ix2 a r) = (W main_v1 : Vec Ideal S96x1728 .fp8e4m3) (ix2 a r) := by
  have e : (k.win1.blk t).view.emb (ix2 a r) = ix2 a r := by blk_ext [idx k t]
  show (W main_v1 : Vec Ideal S96x1728 .fp8e4m3) ((k.win1.blk t).view.emb (ix2 a r)) = _
  rw [e]

/-- their scales, -/
theorem blk2 (t : Fin grid0.N) (a : Fin 96) (r : Fin 1728) :
    (k.blk W 2 t : Vec Ideal S96x1728 .f32) (ix2 a r) = (W main_v4 : Vec Ideal S96x1728 .f32) (ix2 a r) := by
  have e : (k.win2.blk t).view.emb (ix2 a r) = ix2 a r := by blk_ext [idx k t]
  show (W main_v4 : Vec Ideal S96x1728 .f32) ((k.win2.blk t).view.emb (ix2 a r)) = _
  rw [e]

/-- the features' scale, -/
theorem blk3 (t : Fin grid0.N) : (k.blk W 3 t : Vec Ideal S1 .f32) (ix1 0) = (W main_arg6 : Vec Ideal S1 .f32) (ix1 0) := by
  have e : (k.win3.blk t).view.emb (ix1 0) = ix1 0 := by
    funext a
    match a with
    | ⟨0, _⟩ => exact Subsingleton.elim (α := Fin 1) _ _
  show (W main_arg6 : Vec Ideal S1 .f32) ((k.win3.blk t).view.emb (ix1 0)) = _
  rw [e]

/-- and the bias. -/
theorem blk4 (t : Fin grid0.N) (a : Fin 96) :
    (k.blk W 4 t : Vec Ideal S96x1 .f32) (ix2 a 0) = (W main_v5 : Vec Ideal S96x1 .f32) (ix2 a 0) := by
  have e : (k.win4.blk t).view.emb (ix2 a 0) = ix2 a 0 := by blk_ext [idx k t]
  show (W main_v5 : Vec Ideal S96x1 .f32) ((k.win4.blk t).view.emb (ix2 a 0)) = _
  rw [e]

/-- One element of the block a call leaves at point `t`, given the column of words it is made of. -/
theorem out_apply (t : Fin grid0.N) (g : Vec Ideal S2x432x81920 .i32) (z : Fin 1) (c : Fin 96) (v : Fin 4096) (i : S12x96x81920.Idx)
    (hc : (i 1).val = c.val) (hg : ∀ r : Fin 432, (k.blk W 0 t : Vec Ideal S1x432x4096 .i32) (ix3 0 r v) = g (ix3 ⟨(i 0).val % 2, Nat.mod_lt _ (by decide)⟩ r (i 2))) :
    k.out W t (ix3 z c v) = prodAt g (W main_arg6) (W main_v1) (W main_v4) (W main_v5) i := by
  refine Eq.trans ?_ (congrArg (fun c => prod g (W main_arg6) (W main_v1) (W main_v4) (W main_v5) ⟨(i 0).val % 2, Nat.mod_lt _ (by decide)⟩ c (i 2))
    (Fin.ext hc.symm : c = i 1))
  unfold out weights
  rw [pay_apply]
  unfold prod
  simp only [weff_apply]
  rw [blk3, blk4]
  simp only [blk1, blk2, hg]

end Call

end Cert.KernelIdeal.Gen

end
-- ==== Proof.Finals.lean ====
/-
  The array each call leaves: its own two scenes hold the products, the others what they held at its entry.
-/
module

public import proofs.«01_k».proof.Proof.BlockValue

@[expose] public section

set_option maxRecDepth 16384

noncomputable section

namespace Cert.KernelIdeal.Gen
open Idealize.ShloMosaic Idealize.ShloMosaic.TcCoe Cert.Proof

/-- The first call's. -/
theorem final0 (W : Valuation τ sig (Elt Ideal)) (c : Dev nD) : (k0.exit W c 0 fun t s => (t, s)) main_v6
    = left 0 (W main_arg0) (W main_arg6) (W main_v1) (W main_v4) (W main_v5) (W main_v6) := by
  have ix : ∀ t : Fin grid0.N, (k0.win 0).index t = ![(grid0.coords t 0).val, 0, (grid0.coords t 1).val]
    ∧ (k0.win 5).index t = ![(grid0.coords t 0).val + 0, 0, (grid0.coords t 1).val] := by decide +kernel
  refine (Pipeline.afterRegion_arr (k0.dat (b := 0) (args := fun t s => (t, s)) W c (k0.rest c)) W winFacts0.arr_inj 5).trans
    ((k0.dat (b := 0) (args := fun t s => (t, s)) W c (k0.rest c)).arrAt_eq_of_coversWhere 5
      (prodAt (W main_arg0) (W main_arg6) (W main_v1) (W main_v4) (W main_v5))
      (fun β => 0 ≤ β (0 : Fin 3) ∧ β (0 : Fin 3) < 0 + 2) (by decide +kernel) (P := fun i : S12x96x81920.Idx => 0 ≤ (i 0).val ∧ (i 0).val < 0 + 2)
      (fun t hf y => ?_) (fun j => by blk_simp [Pipeline.Window.cell_apply]; rw [Nat.div_one]))
  idx_vars y
  blk_simp
  rw [Call.after5]
  exact Call.out_apply k0 W t (W main_arg0) _ _ _ _ (by blk_simp [ix t]) fun r => by
    have : (grid0.coords t 0).val < 2 := (grid0.coords t 0).isLt
    blk_ext [Call.blk, ix t]

/-- The second call's. -/
theorem final1 (W : Valuation τ sig (Elt Ideal)) (c : Dev nD) : (k1.exit W c 1 fun t s => (t, s)) main_v7
    = left 2 (W main_arg1) (W main_arg6) (W main_v1) (W main_v4) (W main_v5) (W main_v7) := by
  have ix : ∀ t : Fin grid0.N, (k1.win 0).index t = ![(grid0.coords t 0).val, 0, (grid0.coords t 1).val]
    ∧ (k1.win 5).index t = ![(grid0.coords t 0).val + 2, 0, (grid0.coords t 1).val] := by decide +kernel
  refine (Pipeline.afterRegion_arr (k1.dat (b := 1) (args := fun t s => (t, s)) W c (k1.rest c)) W winFacts1.arr_inj 5).trans
    ((k1.dat (b := 1) (args := fun t s => (t, s)) W c (k1.rest c)).arrAt_eq_of_coversWhere 5
      (prodAt (W main_arg1) (W main_arg6) (W main_v1) (W main_v4) (W main_v5))
      (fun β => 2 ≤ β (0 : Fin 3) ∧ β (0 : Fin 3) < 2 + 2) (by decide +kernel) (P := fun i : S12x96x81920.Idx => 2 ≤ (i 0).val ∧ (i 0).val < 2 + 2)
      (fun t hf y => ?_) (fun j => by blk_simp [Pipeline.Window.cell_apply]; rw [Nat.div_one]))
  idx_vars y
  blk_simp
  rw [Call.after5]
  exact Call.out_apply k1 W t (W main_arg1) _ _ _ _ (by blk_simp [ix t]) fun r => by
    have : (grid0.coords t 0).val < 2 := (grid0.coords t 0).isLt
    blk_ext [Call.blk, ix t]

/-- The third call's. -/
theorem final2 (W : Valuation τ sig (Elt Ideal)) (c : Dev nD) : (k2.exit W c 2 fun t s => (t, s)) main_v8
    = left 4 (W main_arg2) (W main_arg6) (W main_v1) (W main_v4) (W main_v5) (W main_v8) := by
  have ix : ∀ t : Fin grid0.N, (k2.win 0).index t = ![(grid0.coords t 0).val, 0, (grid0.coords t 1).val]
    ∧ (k2.win 5).index t = ![(grid0.coords t 0).val + 4, 0, (grid0.coords t 1).val] := by decide +kernel
  refine (Pipeline.afterRegion_arr (k2.dat (b := 2) (args := fun t s => (t, s)) W c (k2.rest c)) W winFacts2.arr_inj 5).trans
    ((k2.dat (b := 2) (args := fun t s => (t, s)) W c (k2.rest c)).arrAt_eq_of_coversWhere 5
      (prodAt (W main_arg2) (W main_arg6) (W main_v1) (W main_v4) (W main_v5))
      (fun β => 4 ≤ β (0 : Fin 3) ∧ β (0 : Fin 3) < 4 + 2) (by decide +kernel) (P := fun i : S12x96x81920.Idx => 4 ≤ (i 0).val ∧ (i 0).val < 4 + 2)
      (fun t hf y => ?_) (fun j => by blk_simp [Pipeline.Window.cell_apply]; rw [Nat.div_one]))
  idx_vars y
  blk_simp
  rw [Call.after5]
  exact Call.out_apply k2 W t (W main_arg2) _ _ _ _ (by blk_simp [ix t]) fun r => by
    have : (grid0.coords t 0).val < 2 := (grid0.coords t 0).isLt
    blk_ext [Call.blk, ix t]

/-- The fourth call's. -/
theorem final3 (W : Valuation τ sig (Elt Ideal)) (c : Dev nD) : (k3.exit W c 3 fun t s => (t, s)) main_v9
    = left 6 (W main_arg3) (W main_arg6) (W main_v1) (W main_v4) (W main_v5) (W main_v9) := by
  have ix : ∀ t : Fin grid0.N, (k3.win 0).index t = ![(grid0.coords t 0).val, 0, (grid0.coords t 1).val]
    ∧ (k3.win 5).index t = ![(grid0.coords t 0).val + 6, 0, (grid0.coords t 1).val] := by decide +kernel
  refine (Pipeline.afterRegion_arr (k3.dat (b := 3) (args := fun t s => (t, s)) W c (k3.rest c)) W winFacts3.arr_inj 5).trans
    ((k3.dat (b := 3) (args := fun t s => (t, s)) W c (k3.rest c)).arrAt_eq_of_coversWhere 5
      (prodAt (W main_arg3) (W main_arg6) (W main_v1) (W main_v4) (W main_v5))
      (fun β => 6 ≤ β (0 : Fin 3) ∧ β (0 : Fin 3) < 6 + 2) (by decide +kernel) (P := fun i : S12x96x81920.Idx => 6 ≤ (i 0).val ∧ (i 0).val < 6 + 2)
      (fun t hf y => ?_) (fun j => by blk_simp [Pipeline.Window.cell_apply]; rw [Nat.div_one]))
  idx_vars y
  blk_simp
  rw [Call.after5]
  exact Call.out_apply k3 W t (W main_arg3) _ _ _ _ (by blk_simp [ix t]) fun r => by
    have : (grid0.coords t 0).val < 2 := (grid0.coords t 0).isLt
    blk_ext [Call.blk, ix t]

/-- The fifth call's. -/
theorem final4 (W : Valuation τ sig (Elt Ideal)) (c : Dev nD) : (k4.exit W c 4 fun t s => (t, s)) main_v10
    = left 8 (W main_arg4) (W main_arg6) (W main_v1) (W main_v4) (W main_v5) (W main_v10) := by
  have ix : ∀ t : Fin grid0.N, (k4.win 0).index t = ![(grid0.coords t 0).val, 0, (grid0.coords t 1).val]
    ∧ (k4.win 5).index t = ![(grid0.coords t 0).val + 8, 0, (grid0.coords t 1).val] := by decide +kernel
  refine (Pipeline.afterRegion_arr (k4.dat (b := 4) (args := fun t s => (t, s)) W c (k4.rest c)) W winFacts4.arr_inj 5).trans
    ((k4.dat (b := 4) (args := fun t s => (t, s)) W c (k4.rest c)).arrAt_eq_of_coversWhere 5
      (prodAt (W main_arg4) (W main_arg6) (W main_v1) (W main_v4) (W main_v5))
      (fun β => 8 ≤ β (0 : Fin 3) ∧ β (0 : Fin 3) < 8 + 2) (by decide +kernel) (P := fun i : S12x96x81920.Idx => 8 ≤ (i 0).val ∧ (i 0).val < 8 + 2)
      (fun t hf y => ?_) (fun j => by blk_simp [Pipeline.Window.cell_apply]; rw [Nat.div_one]))
  idx_vars y
  blk_simp
  rw [Call.after5]
  exact Call.out_apply k4 W t (W main_arg4) _ _ _ _ (by blk_simp [ix t]) fun r => by
    have : (grid0.coords t 0).val < 2 := (grid0.coords t 0).isLt
    blk_ext [Call.blk, ix t]

/-- The sixth call's. -/
theorem final5 (W : Valuation τ sig (Elt Ideal)) (c : Dev nD) : (k5.exit W c 5 fun t s => (t, s)) main_v11
    = left 10 (W main_arg5) (W main_arg6) (W main_v1) (W main_v4) (W main_v5) (W main_v11) := by
  have ix : ∀ t : Fin grid0.N, (k5.win 0).index t = ![(grid0.coords t 0).val, 0, (grid0.coords t 1).val]
    ∧ (k5.win 5).index t = ![(grid0.coords t 0).val + 10, 0, (grid0.coords t 1).val] := by decide +kernel
  refine (Pipeline.afterRegion_arr (k5.dat (b := 5) (args := fun t s => (t, s)) W c (k5.rest c)) W winFacts5.arr_inj 5).trans
    ((k5.dat (b := 5) (args := fun t s => (t, s)) W c (k5.rest c)).arrAt_eq_of_coversWhere 5
      (prodAt (W main_arg5) (W main_arg6) (W main_v1) (W main_v4) (W main_v5))
      (fun β => 10 ≤ β (0 : Fin 3) ∧ β (0 : Fin 3) < 10 + 2) (by decide +kernel) (P := fun i : S12x96x81920.Idx => 10 ≤ (i 0).val ∧ (i 0).val < 10 + 2)
      (fun t hf y => ?_) (fun j => by blk_simp [Pipeline.Window.cell_apply]; rw [Nat.div_one]))
  idx_vars y
  blk_simp
  rw [Call.after5]
  exact Call.out_apply k5 W t (W main_arg5) _ _ _ _ (by blk_simp [ix t]) fun r => by
    have : (grid0.coords t 0).val < 2 := (grid0.coords t 0).isLt
    blk_ext [Call.blk, ix t]

end Cert.KernelIdeal.Gen

end
-- ==== Proof.KernelValue.lean ====
/-
  The result array after the run, over the arguments: every scene holds the product of its own words.
-/
module

public import proofs.«01_k».proof.Proof.Finals

@[expose] public section

set_option maxRecDepth 16384

noncomputable section

namespace Cert.KernelIdeal.Gen
open Idealize.ShloMosaic Idealize.ShloMosaic.TcCoe Cert.Proof Idealize.SL.Sem

section keeps

variable {F : FTy → Type} [FloatOps F] (m : (ℓ : Loc nD τ sig) → Buf (Elt F) ℓ) (c : Dev nD) (r : Ref sig .tc)

theorem U1_of (h : r ∉ hostOps0_W) : U1 m c r = m (c, r) := StableHlo.after_of_writes_sub hostOps0 _ hostOps0_writes h
theorem U2_of (h : r ≠ main_v6) : U2 m c r = U1 m c r := Call.exit_of k0 _ c winFacts0.arr_inj _ (StableHlo.devRef_ne_of_ne h)
theorem U3_of (h : r ∉ hostOps1_W) : U3 m c r = U2 m c r := StableHlo.after_of_writes_sub hostOps1 _ hostOps1_writes h
theorem U4_of (h : r ≠ main_v7) : U4 m c r = U3 m c r := Call.exit_of k1 _ c winFacts1.arr_inj _ (StableHlo.devRef_ne_of_ne h)
theorem U5_of (h : r ∉ hostOps2_W) : U5 m c r = U4 m c r := StableHlo.after_of_writes_sub hostOps2 _ hostOps2_writes h
theorem U6_of (h : r ≠ main_v8) : U6 m c r = U5 m c r := Call.exit_of k2 _ c winFacts2.arr_inj _ (StableHlo.devRef_ne_of_ne h)
theorem U7_of (h : r ∉ hostOps3_W) : U7 m c r = U6 m c r := StableHlo.after_of_writes_sub hostOps3 _ hostOps3_writes h
theorem U8_of (h : r ≠ main_v9) : U8 m c r = U7 m c r := Call.exit_of k3 _ c winFacts3.arr_inj _ (StableHlo.devRef_ne_of_ne h)
theorem U9_of (h : r ∉ hostOps4_W) : U9 m c r = U8 m c r := StableHlo.after_of_writes_sub hostOps4 _ hostOps4_writes h
theorem U10_of (h : r ≠ main_v10) : U10 m c r = U9 m c r := Call.exit_of k4 _ c winFacts4.arr_inj _ (StableHlo.devRef_ne_of_ne h)
theorem U11_of (h : r ∉ hostOps5_W) : U11 m c r = U10 m c r := StableHlo.after_of_writes_sub hostOps5 _ hostOps5_writes h
theorem U12_of (h : r ≠ main_v11) : U12 m c r = U11 m c r := Call.exit_of k5 _ c winFacts5.arr_inj _ (StableHlo.devRef_ne_of_ne h)

/-- The arrays the calls write. -/
abbrev written : List (Ref sig .tc) := [main_v6, main_v7, main_v8, main_v9, main_v10, main_v11]

/-- Any other buffer is at every call's entry what the first found in it. -/
theorem entries_of (h : r ∉ written) (p : Fin 6) : entries m p c r = U1 m c r := by
  simp only [written, List.mem_cons, List.not_mem_nil, or_false, not_or] at h
  obtain ⟨h6, h7, h8, h9, h10, h11⟩ := h
  have e3 : U3 m c r = U1 m c r := (U3_of m c r (by simpa using h7)).trans (U2_of m c r h6)
  have e5 : U5 m c r = U1 m c r := ((U5_of m c r (by simpa using h8)).trans (U4_of m c r h7)).trans e3
  have e7 : U7 m c r = U1 m c r := ((U7_of m c r (by simpa using h9)).trans (U6_of m c r h8)).trans e5
  have e9 : U9 m c r = U1 m c r := ((U9_of m c r (by simpa using h10)).trans (U8_of m c r h9)).trans e7
  have e11 : U11 m c r = U1 m c r := ((U11_of m c r (by simpa using h11)).trans (U10_of m c r h10)).trans e9
  match p with
  | 0 => rfl
  | 1 => exact e3
  | 2 => exact e5
  | 3 => exact e7
  | 4 => exact e9
  | 5 => exact e11

/-- An argument is never written. -/
theorem kept (h : r ∉ written) (h' : r ∉ hostOps0_W) (hn : r ≠ main_v11) : U12 m c r = m (c, r) :=
  ((U12_of m c r hn).trans (entries_of m c r h 5)).trans (U1_of m c r h')

/-- Each call starts from the array the one before it left. -/
theorem copy1 : U3 m c main_v7 = U2 m c main_v6 := by unfold U3; rfl
theorem copy2 : U5 m c main_v8 = U4 m c main_v7 := by unfold U5; rfl
theorem copy3 : U7 m c main_v9 = U6 m c main_v8 := by unfold U7; rfl
theorem copy4 : U9 m c main_v10 = U8 m c main_v9 := by unfold U9; rfl
theorem copy5 : U11 m c main_v11 = U10 m c main_v10 := by unfold U11; rfl

/-- A buffer as it ends. -/
theorem end_of (c : Dev nD) (r : Ref sig .tc) (h : r ∉ written) (h' : r ∉ hostOps0_W) (hn : r ≠ main_v11) (hs : (Proc.devRef (τ := τ) .tc r) ∈ Pipeline.ucRefs τ sig)
    {s : MemSt nD τ sig (Elt F)} (hr : ∀ c : Dev nD, ∀ b ∈ Pipeline.ucRefs τ sig, s.mem (c, b) = U12 m c b) :
    s.mem ((c : Thread nD τ).loc r) = m ((c : Thread nD τ).loc r) := (hr c _ hs).trans (kept m c r h h' hn)

/-- An unscoped reference of the TensorCore. -/
theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by simpa using h⟩

/-- The run leaves every argument as launched and every semaphore at zero. -/
theorem frame (ρ : Dev nD → PrngReg) : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨fun c =>
    have e (x : Ref sig .tc) (h1 : x ∉ written) (h2 : x ∉ hostOps0_W) (h3 : x ≠ main_v11) (h4) := end_of m c x h1 h2 h3 (mem_uc x h4) h.1
    ⟨e main_arg0 (by decide) (by decide) (by decide) rfl, e main_arg1 (by decide) (by decide) (by decide) rfl,
      e main_arg2 (by decide) (by decide) (by decide) rfl, e main_arg3 (by decide) (by decide) (by decide) rfl,
      e main_arg4 (by decide) (by decide) (by decide) rfl, e main_arg5 (by decide) (by decide) (by decide) rfl,
      e main_arg6 (by decide) (by decide) (by decide) rfl, e main_arg7 (by decide) (by decide) (by decide) rfl,
      e main_arg8 (by decide) (by decide) (by decide) rfl, e main_arg9 (by decide) (by decide) (by decide) rfl⟩, h.2⟩)
    (run_end m ρ)

end keeps

variable (m : (ℓ : Loc nD τ sig) → Buf (Elt Ideal) ℓ) (c : Dev nD)

/-- The transposed codes, scales and bias the host prepares, over the arguments. -/
theorem v1_apply (a : Fin 96) (k : Fin 1728) : (U1 m c main_v1 : Vec Ideal S96x1728 .fp8e4m3) (ix2 a k)
    = (m ((c : Thread nD τ).loc main_arg7) : Vec Ideal S27x64x96 .fp8e4m3) (ix3 ⟨k.val / 64, by omega⟩ ⟨k.val % 64, by omega⟩ a) := by
  unfold U1
  entry_read
  pointwise

theorem v4_apply (a : Fin 96) (k : Fin 1728) : (U1 m c main_v4 : Vec Ideal S96x1728 .f32) (ix2 a k)
    = (m ((c : Thread nD τ).loc main_arg8) : Vec Ideal S27x96 .f32) (ix2 ⟨k.val / 64, by omega⟩ a) := by
  unfold U1
  entry_read
  pointwise

theorem v5_apply (a : Fin 96) : (U1 m c main_v5 : Vec Ideal S96x1 .f32) (ix2 a 0)
    = (m ((c : Thread nD τ).loc main_arg9) : Vec Ideal S96 .f32) (ix1 a) := by
  unfold U1
  entry_read
  pointwise

/-- The words of each pair of scenes. -/
def words (p : Fin 6) : Vec Ideal S2x432x81920 .i32 :=
  match p with
  | 0 => m ((c : Thread nD τ).loc main_arg0) | 1 => m ((c : Thread nD τ).loc main_arg1) | 2 => m ((c : Thread nD τ).loc main_arg2)
  | 3 => m ((c : Thread nD τ).loc main_arg3) | 4 => m ((c : Thread nD τ).loc main_arg4) | 5 => m ((c : Thread nD τ).loc main_arg5)

/-- The result array. -/
def G (i : S12x96x81920.Idx) : EReal :=
  val (words m c ⟨(i 0).val / 2, Nat.div_lt_of_lt_mul (i 0).isLt⟩) (m ((c : Thread nD τ).loc main_arg6)) (m ((c : Thread nD τ).loc main_arg7))
    (m ((c : Thread nD τ).loc main_arg8)) (m ((c : Thread nD τ).loc main_arg9)) ⟨(i 0).val % 2, Nat.mod_lt _ (by decide)⟩ (i 1) (i 2)

/-- A call's product, over the arguments. -/
theorem prodAt_entries (p : Fin 6) (g : Vec Ideal S2x432x81920 .i32) (hg : g = words m c p) (i : S12x96x81920.Idx)
    (hi : (i 0).val / 2 = p.val) :
    prodAt g (entries m p c main_arg6) (entries m p c main_v1) (entries m p c main_v4) (entries m p c main_v5) i = G m c i := by
  subst hg
  have hp : (⟨(i 0).val / 2, Nat.div_lt_of_lt_mul (i 0).isLt⟩ : Fin 6) = p := Fin.ext hi
  unfold G
  rw [hp]
  unfold prodAt prod val
  rw [entries_of m c main_arg6 (by decide) p, entries_of m c main_v1 (by decide) p, entries_of m c main_v4 (by decide) p,
    entries_of m c main_v5 (by decide) p, U1_of m c main_arg6 (by decide)]
  refine congr (congrArg _ (congr (congrArg _ (Finset.sum_congr rfl fun k _ => ?_)) rfl)) (v5_apply m c (i 1))
  exact congrArg (· * _) (congr (congrArg _ (v1_apply m c (i 1) k)) (v4_apply m c (i 1) k))

/-- The words a call reads are its argument. -/
theorem words_entries (r : Ref sig .tc) (h : r ∉ written) (h' : r ∉ hostOps0_W) (p : Fin 6) : entries m p c r = m (c, r) :=
  (entries_of m c r h p).trans (U1_of m c r h')

/-- The result after the run. -/
theorem result : U12 m c main_v11 = G m c := by
  funext i
  have lt : (i 0).val < 12 := (i 0).isLt
  have f5 := congrFun (final5 (U11 m c) c) i
  have f4 := congrFun (final4 (U9 m c) c) i
  have f3 := congrFun (final3 (U7 m c) c) i
  have f2 := congrFun (final2 (U5 m c) c) i
  have f1 := congrFun (final1 (U3 m c) c) i
  have f0 := congrFun (final0 (U1 m c) c) i
  refine f5.trans ?_
  unfold left
  split_ifs with h5
  · exact prodAt_entries m c 5 _ (words_entries m c main_arg5 (by decide) (by decide) 5) i (by show _ = 5; omega)
  rw [copy5]; refine f4.trans ?_
  unfold left
  split_ifs with h4
  · exact prodAt_entries m c 4 _ (words_entries m c main_arg4 (by decide) (by decide) 4) i (by show _ = 4; omega)
  rw [copy4]; refine f3.trans ?_
  unfold left
  split_ifs with h3
  · exact prodAt_entries m c 3 _ (words_entries m c main_arg3 (by decide) (by decide) 3) i (by show _ = 3; omega)
  rw [copy3]; refine f2.trans ?_
  unfold left
  split_ifs with h2
  · exact prodAt_entries m c 2 _ (words_entries m c main_arg2 (by decide) (by decide) 2) i (by show _ = 2; omega)
  rw [copy2]; refine f1.trans ?_
  unfold left
  split_ifs with h1
  · exact prodAt_entries m c 1 _ (words_entries m c main_arg1 (by decide) (by decide) 1) i (by show _ = 1; omega)
  rw [copy1]; refine f0.trans ?_
  unfold left
  rw [if_pos (by omega)]
  exact prodAt_entries m c 0 _ (words_entries m c main_arg0 (by decide) (by decide) 0) i (by show _ = 0; omega)

/-- The run, with the result array and the arguments as they end. -/
theorem run_result (ρ : Dev nD → PrngReg) : θ_run defs (onTc (τ := τ) (main (F := Ideal))) ⟨m, fun _ => 0, ρ⟩ fun r => ∀ c : Dev nD,
      r.2.mem ((c.tc : Thread nD τ).loc main_v11) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    have e (x : Ref sig .tc) (h1 : x ∉ written) (h2 : x ∉ hostOps0_W) (h3 : x ≠ main_v11) (h4) := end_of m c x h1 h2 h3 (mem_uc x h4) h.1
    ⟨(h.1 c _ (mem_uc main_v11 rfl)).trans (result m c),
      e main_arg0 (by decide) (by decide) (by decide) rfl, e main_arg1 (by decide) (by decide) (by decide) rfl,
      e main_arg2 (by decide) (by decide) (by decide) rfl, e main_arg3 (by decide) (by decide) (by decide) rfl,
      e main_arg4 (by decide) (by decide) (by decide) rfl, e main_arg5 (by decide) (by decide) (by decide) rfl,
      e main_arg6 (by decide) (by decide) (by decide) rfl, e main_arg7 (by decide) (by decide) (by decide) rfl,
      e main_arg8 (by decide) (by decide) (by decide) rfl, e main_arg9 (by decide) (by decide) (by decide) rfl⟩)
    (run_end m ρ)

end Cert.KernelIdeal.Gen

end
-- ==== Proof.ReferenceValue.lean ====
/-
  The reference's result array after the run, at an index.
-/
module

public import proofs.«01_k».proof.Proof.Bytes
public import proofs.«01_k».proof.Proof.Gen.ReferenceIdeal.Frame
public import Idealize.ShloMosaic.Lib.Pipeline.ValueKit
public import Idealize.ShloMosaic.Lib.Pipeline.ReadBack

@[expose] public section

set_option maxRecDepth 16384

noncomputable section

namespace Cert.ReferenceIdeal.Gen
open Idealize.ShloMosaic Idealize.ShloMosaic.TcCoe Cert.Proof Idealize.SL.Sem

variable (m : (ℓ : Loc nD τ sig) → Buf (Elt Ideal) ℓ)

/-- The body's result at an index. -/
theorem pay_apply (w : Vec Ideal S1728x96 .fp8e4m3) (ws : Vec Ideal S1728x96 .f32) (g : Vec Ideal S12x432x81920 .i32)
    (xs : Elt Ideal .f32) (b : Vec Ideal S96x1 .f32) (s : Fin 12) (c : Fin 96) (v : Fin 81920) :
    k0_pay1 (F := Ideal) w ws g xs b (ix3 s c v)
      = (∑ k : Fin 1728, w (ix2 k c) * ws (ix2 k c) * code (g (ix3 s ⟨k.val / 4, by omega⟩ v)) (k.val % 4)) * xs + b (ix2 c 0) := by
  unfold k0_pay1
  pointwise
  refine congrArg (· * xs + b (ix2 c 0)) (Finset.sum_congr rfl fun k _ => ?_)
  rw [codes_ix3 _ _ _ k v (by omega)]

/-- The one index of a one-element array. -/
theorem first_one {hn} : (Shape.Idx.first (s := S1) hn) = ix1 0 := by
  funext a
  match a with
  | ⟨0, _⟩ => exact Subsingleton.elim (α := Fin 1) _ _

/-- The words of each pair of scenes. -/
def words (c : Dev nD) (p : Fin 6) : Vec Ideal S2x432x81920 .i32 :=
  match p with
  | 0 => m ((c : Thread nD τ).loc main_arg0) | 1 => m ((c : Thread nD τ).loc main_arg1) | 2 => m ((c : Thread nD τ).loc main_arg2)
  | 3 => m ((c : Thread nD τ).loc main_arg3) | 4 => m ((c : Thread nD τ).loc main_arg4) | 5 => m ((c : Thread nD τ).loc main_arg5)

/-- The windows are whole arrays. -/
theorem idx : ∀ t : Fin grid0.N, win0_0.index t = ![0, 0, 0] ∧ win0_1.index t = ![0, 0] ∧ win0_2.index t = ![0, 0]
    ∧ win0_4.index t = ![0, 0] ∧ win0_5.index t = ![0, 0, 0] := by decide +kernel

theorem iblk0 (c : Dev nD) (t : Fin cfg0.N) (s : Fin 12) (k : Fin 432) (v : Fin 81920) :
    (iblk (F := Ideal) m c 0 t : Vec Ideal S12x432x81920 .i32) (ix3 s k v)
      = words m c ⟨s.val / 2, by omega⟩ (ix3 ⟨s.val % 2, by omega⟩ k v) := by
  have e : (win0_0.blk t).view.emb (ix3 s k v) = ix3 s k v := by blk_ext [idx t]
  show (V m c (Pipeline.arrRef spec0 0) : Vec Ideal S12x432x81920 .i32) ((win0_0.blk t).view.emb (ix3 s k v)) = _
  rw [e]
  entry_read
  pointwise
  clear e
  fin_cases s <;> rfl

theorem iblk1 (c : Dev nD) (t : Fin cfg0.N) (a : Fin 96) (k : Fin 1728) :
    (iblk (F := Ideal) m c 1 t : Vec Ideal S1728x96 .fp8e4m3) (ix2 k a)
      = (m ((c : Thread nD τ).loc main_arg7) : Vec Ideal S27x64x96 .fp8e4m3) (ix3 ⟨k.val / 64, by omega⟩ ⟨k.val % 64, by omega⟩ a) := by
  have e : (win0_1.blk t).view.emb (ix2 k a) = ix2 k a := by blk_ext [idx t]
  show (V m c (Pipeline.arrRef spec0 1) : Vec Ideal S1728x96 .fp8e4m3) ((win0_1.blk t).view.emb (ix2 k a)) = _
  rw [e]
  entry_read
  pointwise

theorem iblk2 (c : Dev nD) (t : Fin cfg0.N) (a : Fin 96) (k : Fin 1728) :
    (iblk (F := Ideal) m c 2 t : Vec Ideal S1728x96 .f32) (ix2 k a)
      = (m ((c : Thread nD τ).loc main_arg8) : Vec Ideal S27x96 .f32) (ix2 ⟨k.val / 64, by omega⟩ a) := by
  have e : (win0_2.blk t).view.emb (ix2 k a) = ix2 k a := by blk_ext [idx t]
  show (V m c (Pipeline.arrRef spec0 2) : Vec Ideal S1728x96 .f32) ((win0_2.blk t).view.emb (ix2 k a)) = _
  rw [e]
  entry_read
  pointwise

theorem iblk3 (c : Dev nD) (t : Fin cfg0.N) :
    (iblk (F := Ideal) m c 3 t : Vec Ideal S1 .f32) (ix1 0) = (m ((c : Thread nD τ).loc main_arg6) : Vec Ideal S1 .f32) (ix1 0) := by
  have e : (win0_3.blk t).view.emb (ix1 0) = ix1 0 := by
    funext a
    match a with
    | ⟨0, _⟩ => exact Subsingleton.elim (α := Fin 1) _ _
  show (V m c (Pipeline.arrRef spec0 3) : Vec Ideal S1 .f32) ((win0_3.blk t).view.emb (ix1 0)) = _
  rw [e]
  entry_read
  rfl

theorem iblk4 (c : Dev nD) (t : Fin cfg0.N) (a : Fin 96) :
    (iblk (F := Ideal) m c 4 t : Vec Ideal S96x1 .f32) (ix2 a 0) = (m ((c : Thread nD τ).loc main_arg9) : Vec Ideal S96 .f32) (ix1 a) := by
  have e : (win0_4.blk t).view.emb (ix2 a 0) = ix2 a 0 := by blk_ext [idx t]
  show (V m c (Pipeline.arrRef spec0 4) : Vec Ideal S96x1 .f32) ((win0_4.blk t).view.emb (ix2 a 0)) = _
  rw [e]
  entry_read
  pointwise

/-- The result array. -/
def G (c : Dev nD) (i : S12x96x81920.Idx) : EReal :=
  val (words m c ⟨(i 0).val / 2, Nat.div_lt_of_lt_mul (i 0).isLt⟩) (m ((c : Thread nD τ).loc main_arg6)) (m ((c : Thread nD τ).loc main_arg7))
    (m ((c : Thread nD τ).loc main_arg8)) (m ((c : Thread nD τ).loc main_arg9)) ⟨(i 0).val % 2, Nat.mod_lt _ (by decide)⟩ (i 1) (i 2)

theorem final (c : Dev nD) : (dats (F := Ideal) m 0 c).arrAt 5 cfg0.N = G m c := by
  refine (dats (F := Ideal) m 0 c).arrAt_eq_of_covers 5 _ (by decide +kernel) fun t hf y => ?_
  idx_vars y
  blk_simp
  have e : (win0_5.blk t).view.emb (ix3 y0 y1 y2) = ix3 y0 y1 y2 := by blk_ext [idx t]
  rw [e, after0_5]
  unfold outsAt0
  frame_out
  simp only [read_unread_whole]
  rw [first_one, pay_apply]
  unfold G
  rw [iblk3, iblk4]
  simp only [iblk1, iblk2, iblk0]
  rfl

/-- The run, with the result array and the arguments as they end. -/
theorem run_result (ρ : Dev nD → PrngReg) : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 3).trans (((dats m 0 c).arrAt_in 3 rfl _).trans ((A_eq m c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.GatherLaunch
public import proofs.«01_k».proof.Proof.GatherReferenceValue
public import proofs.«01_k».proof.Proof.KernelValue
public import proofs.«01_k».proof.Proof.ReferenceValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's frame over bit patterns: the two programs are one text, so it is the other's frame read there. -/
theorem frame_bits : Cert.quiescent_Kernel (hKernel := Cert.Kernel.Gen.facts) :=
  have h : Cert.quiescent_Kernel (hKernel := Cert.Kernel.Gen.facts)
      = (∀ (m : (ℓ : Loc Cert.KernelIdeal.nD Cert.KernelIdeal.τ Cert.KernelIdeal.sig) → Buf (Elt Bits) ℓ) (g : Dev Cert.KernelIdeal.nD → PrngReg), True →
        θ_run (Cert.KernelIdeal.defs (F := Bits)) (onTc (τ := Cert.KernelIdeal.τ) (Cert.KernelIdeal.main (F := Bits))) ⟨m, fun _ => 0, g⟩ (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
          ∧ r.2.sem = fun _ => 0)) := by sl_kernel_rfl
  h.mpr fun m g _ => Cert.KernelIdeal.Gen.frame m g

/-- The kernel and the reference leave the same result array. -/
theorem algebraic : Cert.algebraic_KernelIdeal_ReferenceIdeal := by
  intro m g m' g' hpre hag
  refine ⟨Cert.KernelIdeal.Gen.G m, Cert.KernelIdeal.Gen.run_result m g,
    (θ_run _ _ _).mono (fun r h c => ⟨(h c).1.trans ?_, (h c).2⟩) (Cert.ReferenceIdeal.Gen.run_result m' g')⟩
  obtain ⟨h0, h1, h2, h3, h4, h5, h6, h7, h8, h9⟩ := hag c
  funext i
  unfold Cert.ReferenceIdeal.Gen.G Cert.ReferenceIdeal.Gen.words
  rw [h0, h1, h2, h3, h4, h5, h6, h7, h8, h9]
  rfl

/-! ## The gather -/

/-- The gather's frame: it returns, its arguments unchanged and every counter back at zero. -/
theorem frame_gather : Cert.quiescent_Gather (hGather := Cert.Gather.Gen.facts) (hPre_nbr_in_scene := Cert.Pre_nbr_in_scene.Gen.facts) :=
  fun m ρ h => (θ_run Cert.Gather.defs _ _).mono (fun _ hr => ⟨fun c => ⟨(hr.1 c).1, (hr.1 c).2.1⟩, hr.2⟩)
    (GatherTile.run_main (F := Bits) m ρ (fun d => GatherTile.inScene_of_pre m h d))

/-- The frame of the gather's reference. -/
theorem frame_gather_reference : Cert.quiescent_GatherReference (hGatherReference := Cert.GatherReference.Gen.facts) :=
  fun m ρ _ => (θ_run Cert.GatherReference.defs _ _).mono
    (fun r h => ⟨fun c => (h c).2, Idealize.ShloMosaic.sem_eq_zero_of_no_sems (by decide) r.2⟩)
    (Cert.GatherReference.Value.run (F := Bits) m ρ)

/-- The gather and its reference end with the same words. -/
theorem bitexact_gather : Cert.bitexact_Gather_GatherReference (hGather := Cert.Gather.Gen.facts)
    (hGatherReference := Cert.GatherReference.Gen.facts) (hPre_nbr_in_scene := Cert.Pre_nbr_in_scene.Gen.facts) := by
  intro m ρ m' ρ' hp hm
  refine ⟨fun c => GatherTile.gEnd (F := Bits) (GatherTile.m1 m) c,
    (θ_run Cert.Gather.defs _ _).mono (fun _ hr c => ⟨(hr.1 c).2.2, (hr.1 c).1, (hr.1 c).2.1⟩)
      (GatherTile.run_main (F := Bits) m ρ (fun d => GatherTile.inScene_of_pre m hp d)),
    (θ_run Cert.GatherReference.defs _ _).mono (fun r h c => ⟨?_, (h c).2⟩) (Cert.GatherReference.Value.run (F := Bits) m' ρ')⟩
  rw [(h c).1, (hm c).1, (hm c).2]
  have hn := GatherTile.inScene_of_pre m hp c
  show _ = GatherTile.gathered (F := Bits) (GatherTile.xA (F := Bits) (GatherTile.m1 m) c) (GatherTile.nA (F := Bits) (GatherTile.m1 m) c)
  rw [GatherTile.m1_nbr_t] at hn ⊢
  rw [GatherTile.m1_words]
  exact GatherRef.term_eq _ _ hn

theorem claim : Cert.Claim := ⟨Cert.Kernel.Gen.facts, Cert.KernelIdeal.Gen.facts, Cert.ReferenceIdeal.Gen.facts,
  Cert.Gather.Gen.facts, Cert.GatherReference.Gen.facts, Cert.Pre_nbr_in_scene.Gen.facts,
  frame_bits, fun m ρ _ => Cert.KernelIdeal.Gen.frame m ρ,
  fun m ρ _ => Cert.ReferenceIdeal.Gen.frame m ρ,
  frame_gather, frame_gather_reference, fun m ρ _ => frame_gather_reference m ρ trivial,
  trivial, algebraic, bitexact_gather⟩

end Cert.Proof

end
